-- ==== Defs.lean ====
def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpReferenceIdeal (m : (ℓ : Loc Cert.GateUpReferenceIdeal.nD Cert.GateUpReferenceIdeal.τ Cert.GateUpReferenceIdeal.sig) → Buf (Elt Ideal) ℓ) : Prop :=
  True

def Pre_QuantX (m : (ℓ : Loc Cert.QuantX.nD Cert.QuantX.τ Cert.QuantX.sig) → Buf (Elt Bits) ℓ) : Prop :=
  True

def Pre_QuantXReference (m : (ℓ : Loc Cert.QuantXReference.nD Cert.QuantXReference.τ Cert.QuantXReference.sig) → Buf (Elt Bits) ℓ) : Prop :=
  True

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2)
      ∧ r.2.mem ((c.tc : Thread Cert.GateUp.nD Cert.GateUp.τ).loc Cert.GateUp.main_arg3) = m ((c.tc : Thread Cert.GateUp.nD Cert.GateUp.τ).loc Cert.GateUp.main_arg3))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
      ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3))
      ∧ r.2.sem = fun _ => 0)

def quiescent_GateUpReferenceIdeal [hGateUpReferenceIdeal : Cert.GateUpReferenceIdeal.Facts] : Prop :=
  ∀ (m : (ℓ : Loc Cert.GateUpReferenceIdeal.nD Cert.GateUpReferenceIdeal.τ Cert.GateUpReferenceIdeal.sig) → Buf (Elt Ideal) ℓ) (g : Dev Cert.GateUpReferenceIdeal.nD → PrngReg), Pre_GateUpReferenceIdeal m →
    θ_run (Cert.GateUpReferenceIdeal.defs (F := Ideal)) (onTc (τ := Cert.GateUpReferenceIdeal.τ) (Cert.GateUpReferenceIdeal.main (F := Ideal))) ⟨m, fun _ => 0, g⟩ (fun r => (∀ c : Dev Cert.GateUpReferenceIdeal.nD,
      r.2.mem ((c.tc : Thread Cert.GateUpReferenceIdeal.nD Cert.GateUpReferenceIdeal.τ).loc Cert.GateUpReferenceIdeal.main_arg0) = m ((c.tc : Thread Cert.GateUpReferenceIdeal.nD Cert.GateUpReferenceIdeal.τ).loc Cert.GateUpReferenceIdeal.main_arg0)
      ∧ r.2.mem ((c.tc : Thread Cert.GateUpReferenceIdeal.nD Cert.GateUpReferenceIdeal.τ).loc Cert.GateUpReferenceIdeal.main_arg1) = m ((c.tc : Thread Cert.GateUpReferenceIdeal.nD Cert.GateUpReferenceIdeal.τ).loc Cert.GateUpReferenceIdeal.main_arg1)
      ∧ r.2.mem ((c.tc : Thread Cert.GateUpReferenceIdeal.nD Cert.GateUpReferenceIdeal.τ).loc Cert.GateUpReferenceIdeal.main_arg2) = m ((c.tc : Thread Cert.GateUpReferenceIdeal.nD Cert.GateUpReferenceIdeal.τ).loc Cert.GateUpReferenceIdeal.main_arg2)
      ∧ r.2.mem ((c.tc : Thread Cert.GateUpReferenceIdeal.nD Cert.GateUpReferenceIdeal.τ).loc Cert.GateUpReferenceIdeal.main_arg3) = m ((c.tc : Thread Cert.GateUpReferenceIdeal.nD Cert.GateUpReferenceIdeal.τ).loc Cert.GateUpReferenceIdeal.main_arg3))
      ∧ r.2.sem = fun _ => 0)

def quiescent_QuantX [hQuantX : Cert.QuantX.Facts] : Prop :=
  ∀ (m : (ℓ : Loc Cert.QuantX.nD Cert.QuantX.τ Cert.QuantX.sig) → Buf (Elt Bits) ℓ) (g : Dev Cert.QuantX.nD → PrngReg), Pre_QuantX m →
    θ_run (Cert.QuantX.defs (F := Bits)) (onTc (τ := Cert.QuantX.τ) (Cert.QuantX.main (F := Bits))) ⟨m, fun _ => 0, g⟩ (fun r => (∀ c : Dev Cert.QuantX.nD,
      r.2.mem ((c.tc : Thread Cert.QuantX.nD Cert.QuantX.τ).loc Cert.QuantX.main_arg0) = m ((c.tc : Thread Cert.QuantX.nD Cert.QuantX.τ).loc Cert.QuantX.main_arg0))
      ∧ r.2.sem = fun _ => 0)

def quiescent_QuantXReference [hQuantXReference : Cert.QuantXReference.Facts] : Prop :=
  ∀ (m : (ℓ : Loc Cert.QuantXReference.nD Cert.QuantXReference.τ Cert.QuantXReference.sig) → Buf (Elt Bits) ℓ) (g : Dev Cert.QuantXReference.nD → PrngReg), Pre_QuantXReference m →
    θ_run (Cert.QuantXReference.defs (F := Bits)) (onTc (τ := Cert.QuantXReference.τ) (Cert.QuantXReference.main (F := Bits))) ⟨m, fun _ => 0, g⟩ (fun r => (∀ c : Dev Cert.QuantXReference.nD,
      r.2.mem ((c.tc : Thread Cert.QuantXReference.nD Cert.QuantXReference.τ).loc Cert.QuantXReference.main_arg0) = m ((c.tc : Thread Cert.QuantXReference.nD Cert.QuantXReference.τ).loc Cert.QuantXReference.main_arg0))
      ∧ r.2.sem = fun _ => 0)

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)
      ∧ m' ((c.tc : Thread Cert.DownReferenceIdeal.nD Cert.DownReferenceIdeal.τ).loc Cert.DownReferenceIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v4_0)) (v1 : (c : Dev Cert.DownIdeal.nD) → Buf (Elt Ideal) ((c.tc : Thread Cert.DownIdeal.nD Cert.DownIdeal.τ).loc Cert.DownIdeal.main_v4_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v4_0) = v0 c
          ∧ r.2.mem ((c.tc : Thread Cert.DownIdeal.nD Cert.DownIdeal.τ).loc Cert.DownIdeal.main_v4_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v0_0) = v0 c
          ∧ r.2.mem ((c.tc : Thread Cert.DownReferenceIdeal.nD Cert.DownReferenceIdeal.τ).loc Cert.DownReferenceIdeal.main_v0_1) = v1 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3))

def preserves_GateUp_GateUpIdeal : Prop :=
  True

def algebraic_GateUpIdeal_GateUpReferenceIdeal [hGateUpIdeal : Cert.GateUpIdeal.Facts] [hGateUpReferenceIdeal : Cert.GateUpReferenceIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpReferenceIdeal.nD Cert.GateUpReferenceIdeal.τ Cert.GateUpReferenceIdeal.sig) → Buf (Elt Ideal) ℓ) (g' : Dev Cert.GateUpReferenceIdeal.nD → PrngReg), Pre_GateUpIdeal m →
    (∀ c : Dev Cert.GateUpIdeal.nD,
      m' ((c.tc : Thread Cert.GateUpReferenceIdeal.nD Cert.GateUpReferenceIdeal.τ).loc Cert.GateUpReferenceIdeal.main_arg0) = m ((c.tc : Thread Cert.GateUpIdeal.nD Cert.GateUpIdeal.τ).loc Cert.GateUpIdeal.main_arg0)
      ∧ m' ((c.tc : Thread Cert.GateUpReferenceIdeal.nD Cert.GateUpReferenceIdeal.τ).loc Cert.GateUpReferenceIdeal.main_arg1) = m ((c.tc : Thread Cert.GateUpIdeal.nD Cert.GateUpIdeal.τ).loc Cert.GateUpIdeal.main_arg1)
      ∧ m' ((c.tc : Thread Cert.GateUpReferenceIdeal.nD Cert.GateUpReferenceIdeal.τ).loc Cert.GateUpReferenceIdeal.main_arg2) = m ((c.tc : Thread Cert.GateUpIdeal.nD Cert.GateUpIdeal.τ).loc Cert.GateUpIdeal.main_arg2)
      ∧ m' ((c.tc : Thread Cert.GateUpReferenceIdeal.nD Cert.GateUpReferenceIdeal.τ).loc Cert.GateUpReferenceIdeal.main_arg3) = m ((c.tc : Thread Cert.GateUpIdeal.nD Cert.GateUpIdeal.τ).loc Cert.GateUpIdeal.main_arg3)) →
    ∃ (v0 : (c : Dev Cert.GateUpIdeal.nD) → Buf (Elt Ideal) ((c.tc : Thread Cert.GateUpIdeal.nD Cert.GateUpIdeal.τ).loc Cert.GateUpIdeal.main_v4_0)) (v1 : (c : Dev Cert.GateUpIdeal.nD) → Buf (Elt Ideal) ((c.tc : Thread Cert.GateUpIdeal.nD Cert.GateUpIdeal.τ).loc Cert.GateUpIdeal.main_v4_1)) (v2 : (c : Dev Cert.GateUpIdeal.nD) → Buf (Elt Ideal) ((c.tc : Thread Cert.GateUpIdeal.nD Cert.GateUpIdeal.τ).loc Cert.GateUpIdeal.main_v4_2)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v4_0) = v0 c
          ∧ r.2.mem ((c.tc : Thread Cert.GateUpIdeal.nD Cert.GateUpIdeal.τ).loc Cert.GateUpIdeal.main_v4_1) = v1 c
          ∧ r.2.mem ((c.tc : Thread Cert.GateUpIdeal.nD Cert.GateUpIdeal.τ).loc Cert.GateUpIdeal.main_v4_2) = v2 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
          ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3))
      ∧ θ_run (Cert.GateUpReferenceIdeal.defs (F := Ideal)) (onTc (τ := Cert.GateUpReferenceIdeal.τ) (Cert.GateUpReferenceIdeal.main (F := Ideal))) ⟨m', fun _ => 0, g'⟩ (fun r => ∀ c : Dev Cert.GateUpReferenceIdeal.nD,
          r.2.mem ((c.tc : Thread Cert.GateUpReferenceIdeal.nD Cert.GateUpReferenceIdeal.τ).loc Cert.GateUpReferenceIdeal.main_v0_0) = v0 c
          ∧ r.2.mem ((c.tc : Thread Cert.GateUpReferenceIdeal.nD Cert.GateUpReferenceIdeal.τ).loc Cert.GateUpReferenceIdeal.main_v0_1) = v1 c
          ∧ r.2.mem ((c.tc : Thread Cert.GateUpReferenceIdeal.nD Cert.GateUpReferenceIdeal.τ).loc Cert.GateUpReferenceIdeal.main_v0_2) = v2 c
          ∧ r.2.mem ((c.tc : Thread Cert.GateUpReferenceIdeal.nD Cert.GateUpReferenceIdeal.τ).loc Cert.GateUpReferenceIdeal.main_arg0) = m' ((c.tc : Thread Cert.GateUpReferenceIdeal.nD Cert.GateUpReferenceIdeal.τ).loc Cert.GateUpReferenceIdeal.main_arg0)
          ∧ r.2.mem ((c.tc : Thread Cert.GateUpReferenceIdeal.nD Cert.GateUpReferenceIdeal.τ).loc Cert.GateUpReferenceIdeal.main_arg1) = m' ((c.tc : Thread Cert.GateUpReferenceIdeal.nD Cert.GateUpReferenceIdeal.τ).loc Cert.GateUpReferenceIdeal.main_arg1)
          ∧ r.2.mem ((c.tc : Thread Cert.GateUpReferenceIdeal.nD Cert.GateUpReferenceIdeal.τ).loc Cert.GateUpReferenceIdeal.main_arg2) = m' ((c.tc : Thread Cert.GateUpReferenceIdeal.nD Cert.GateUpReferenceIdeal.τ).loc Cert.GateUpReferenceIdeal.main_arg2)
          ∧ r.2.mem ((c.tc : Thread Cert.GateUpReferenceIdeal.nD Cert.GateUpReferenceIdeal.τ).loc Cert.GateUpReferenceIdeal.main_arg3) = m' ((c.tc : Thread Cert.GateUpReferenceIdeal.nD Cert.GateUpReferenceIdeal.τ).loc Cert.GateUpReferenceIdeal.main_arg3))

def bitexact_QuantX_QuantXReference [hQuantX : Cert.QuantX.Facts] [hQuantXReference : Cert.QuantXReference.Facts] : Prop :=
  ∀ (m : (ℓ : Loc Cert.QuantX.nD Cert.QuantX.τ Cert.QuantX.sig) → Buf (Elt Bits) ℓ) (g : Dev Cert.QuantX.nD → PrngReg)
    (m' : (ℓ : Loc Cert.QuantXReference.nD Cert.QuantXReference.τ Cert.QuantXReference.sig) → Buf (Elt Bits) ℓ) (g' : Dev Cert.QuantXReference.nD → PrngReg), Pre_QuantX m →
    (∀ c : Dev Cert.QuantX.nD,
      m' ((c.tc : Thread Cert.QuantXReference.nD Cert.QuantXReference.τ).loc Cert.QuantXReference.main_arg0) = m ((c.tc : Thread Cert.QuantX.nD Cert.QuantX.τ).loc Cert.QuantX.main_arg0)) →
    ∃ (v0 : (c : Dev Cert.QuantX.nD) → Buf (Elt Bits) ((c.tc : Thread Cert.QuantX.nD Cert.QuantX.τ).loc Cert.QuantX.main_v1_0)) (v1 : (c : Dev Cert.QuantX.nD) → Buf (Elt Bits) ((c.tc : Thread Cert.QuantX.nD Cert.QuantX.τ).loc Cert.QuantX.main_v1_1)) (v2 : (c : Dev Cert.QuantX.nD) → Buf (Elt Bits) ((c.tc : Thread Cert.QuantX.nD Cert.QuantX.τ).loc Cert.QuantX.main_v1_2)) (v3 : (c : Dev Cert.QuantX.nD) → Buf (Elt Bits) ((c.tc : Thread Cert.QuantX.nD Cert.QuantX.τ).loc Cert.QuantX.main_v1_3)),
      θ_run (Cert.QuantX.defs (F := Bits)) (onTc (τ := Cert.QuantX.τ) (Cert.QuantX.main (F := Bits))) ⟨m, fun _ => 0, g⟩ (fun r => ∀ c : Dev Cert.QuantX.nD,
          r.2.mem ((c.tc : Thread Cert.QuantX.nD Cert.QuantX.τ).loc Cert.QuantX.main_v1_0) = v0 c
          ∧ r.2.mem ((c.tc : Thread Cert.QuantX.nD Cert.QuantX.τ).loc Cert.QuantX.main_v1_1) = v1 c
          ∧ r.2.mem ((c.tc : Thread Cert.QuantX.nD Cert.QuantX.τ).loc Cert.QuantX.main_v1_2) = v2 c
          ∧ r.2.mem ((c.tc : Thread Cert.QuantX.nD Cert.QuantX.τ).loc Cert.QuantX.main_v1_3) = v3 c
          ∧ r.2.mem ((c.tc : Thread Cert.QuantX.nD Cert.QuantX.τ).loc Cert.QuantX.main_arg0) = m ((c.tc : Thread Cert.QuantX.nD Cert.QuantX.τ).loc Cert.QuantX.main_arg0))
      ∧ θ_run (Cert.QuantXReference.defs (F := Bits)) (onTc (τ := Cert.QuantXReference.τ) (Cert.QuantXReference.main (F := Bits))) ⟨m', fun _ => 0, g'⟩ (fun r => ∀ c : Dev Cert.QuantXReference.nD,
          r.2.mem ((c.tc : Thread Cert.QuantXReference.nD Cert.QuantXReference.τ).loc Cert.QuantXReference.main_v1_0) = v0 c
          ∧ r.2.mem ((c.tc : Thread Cert.QuantXReference.nD Cert.QuantXReference.τ).loc Cert.QuantXReference.main_v1_1) = v1 c
          ∧ r.2.mem ((c.tc : Thread Cert.QuantXReference.nD Cert.QuantXReference.τ).loc Cert.QuantXReference.main_v1_2) = v2 c
          ∧ r.2.mem ((c.tc : Thread Cert.QuantXReference.nD Cert.QuantXReference.τ).loc Cert.QuantXReference.main_v1_3) = v3 c
          ∧ r.2.mem ((c.tc : Thread Cert.QuantXReference.nD Cert.QuantXReference.τ).loc Cert.QuantXReference.main_arg0) = m' ((c.tc : Thread Cert.QuantXReference.nD Cert.QuantXReference.τ).loc Cert.QuantXReference.main_arg0))

def Claim : Prop :=
  ∃ (hDown : Cert.Down.Facts) (hDownIdeal : Cert.DownIdeal.Facts) (hDownReferenceIdeal : Cert.DownReferenceIdeal.Facts) (hGateUp : Cert.GateUp.Facts) (hGateUpIdeal : Cert.GateUpIdeal.Facts) (hGateUpReferenceIdeal : Cert.GateUpReferenceIdeal.Facts) (hQuantX : Cert.QuantX.Facts) (hQuantXReference : Cert.QuantXReference.Facts),
    quiescent_Down (hDown := hDown)
    ∧ quiescent_DownIdeal (hDownIdeal := hDownIdeal)
    ∧ quiescent_DownReferenceIdeal (hDownReferenceIdeal := hDownReferenceIdeal)
    ∧ quiescent_GateUp (hGateUp := hGateUp)
    ∧ quiescent_GateUpIdeal (hGateUpIdeal := hGateUpIdeal)
    ∧ quiescent_GateUpReferenceIdeal (hGateUpReferenceIdeal := hGateUpReferenceIdeal)
    ∧ quiescent_QuantX (hQuantX := hQuantX)
    ∧ quiescent_QuantXReference (hQuantXReference := hQuantXReference)
    ∧ preserves_Down_DownIdeal
    ∧ algebraic_DownIdeal_DownReferenceIdeal (hDownIdeal := hDownIdeal) (hDownReferenceIdeal := hDownReferenceIdeal)
    ∧ preserves_GateUp_GateUpIdeal
    ∧ algebraic_GateUpIdeal_GateUpReferenceIdeal (hGateUpIdeal := hGateUpIdeal) (hGateUpReferenceIdeal := hGateUpReferenceIdeal)
    ∧ bitexact_QuantX_QuantXReference (hQuantX := hQuantX) (hQuantXReference := hQuantXReference)
-- ==== Down.lean ====
abbrev S12288x4096 : Shape := ⟨2, ![12288, 4096]⟩
abbrev S96x32 : Shape := ⟨2, ![96, 32]⟩
abbrev S12288x8192 : Shape := ⟨2, ![12288, 8192]⟩
abbrev S96x8192 : Shape := ⟨2, ![96, 8192]⟩
abbrev S4096x12288 : Shape := ⟨2, ![4096, 12288]⟩
abbrev S32x96 : Shape := ⟨2, ![32, 96]⟩
abbrev S32x96x1 : Shape := ⟨3, ![32, 96, 1]⟩
abbrev S32x96x128 : Shape := ⟨3, ![32, 96, 128]⟩
abbrev S8192x4096 : Shape := ⟨2, ![8192, 4096]⟩
abbrev S8192x96 : Shape := ⟨2, ![8192, 96]⟩
abbrev S512x12288 : Shape := ⟨2, ![512, 12288]⟩
abbrev S4x96x128 : Shape := ⟨3, ![4, 96, 128]⟩
abbrev S12288x1024 : Shape := ⟨2, ![12288, 1024]⟩
abbrev S96x1024 : Shape := ⟨2, ![96, 1024]⟩
abbrev S1024x512 : Shape := ⟨2, ![1024, 512]⟩
abbrev S1024x96 : Shape := ⟨2, ![1024, 96]⟩
abbrev S96x256 : Shape := ⟨2, ![96, 256]⟩
abbrev S1x96x128 : Shape := ⟨3, ![1, 96, 128]⟩
abbrev S96x128 : Shape := ⟨2, ![96, 128]⟩
abbrev S128x128 : Shape := ⟨2, ![128, 128]⟩
abbrev S128x256 : Shape := ⟨2, ![128, 256]⟩
abbrev S1x256 : Shape := ⟨2, ![1, 256]⟩
abbrev S256x128 : Shape := ⟨2, ![256, 128]⟩

abbrev nBuf : Space → Nat
  | .hbm => 10
  | .vmem => 13
  | .smem => 0
  | _ => 0

abbrev bufTy : (tb : Table) → Fin (tcTables nBuf tb) → BufTy
  | .hbm, ⟨0, _⟩ => ⟨S12288x4096, .fp8e4m3⟩
  | .hbm, ⟨1, _⟩ => ⟨S96x32, .f32⟩
  | .hbm, ⟨2, _⟩ => ⟨S12288x8192, .fp8e4m3⟩
  | .hbm, ⟨3, _⟩ => ⟨S96x8192, .f32⟩
  | .hbm, ⟨4, _⟩ => ⟨S4096x12288, .fp8e4m3⟩
  | .hbm, ⟨5, _⟩ => ⟨S32x96, .f32⟩
  | .hbm, ⟨6, _⟩ => ⟨S32x96x1, .f32⟩
  | .hbm, ⟨7, _⟩ => ⟨S32x96x128, .f32⟩
  | .hbm, ⟨8, _⟩ => ⟨S8192x4096, .f32⟩
  | .hbm, ⟨9, _⟩ => ⟨S8192x96, .f32⟩
  | .local _ .vmem, ⟨0, _⟩ => ⟨S512x12288, .fp8e4m3⟩
  | .local _ .vmem, ⟨1, _⟩ => ⟨S512x12288, .fp8e4m3⟩
  | .local _ .vmem, ⟨2, _⟩ => ⟨S4x96x128, .f32⟩
  | .local _ .vmem, ⟨3, _⟩ => ⟨S4x96x128, .f32⟩
  | .local _ .vmem, ⟨4, _⟩ => ⟨S12288x1024, .fp8e4m3⟩
  | .local _ .vmem, ⟨5, _⟩ => ⟨S12288x1024, .fp8e4m3⟩
  | .local _ .vmem, ⟨6, _⟩ => ⟨S96x1024, .f32⟩
  | .local _ .vmem, ⟨7, _⟩ => ⟨S96x1024, .f32⟩
  | .local _ .vmem, ⟨8, _⟩ => ⟨S1024x512, .f32⟩
  | .local _ .vmem, ⟨9, _⟩ => ⟨S1024x512, .f32⟩
  | .local _ .vmem, ⟨10, _⟩ => ⟨S1024x96, .f32⟩
  | .local _ .vmem, ⟨11, _⟩ => ⟨S1024x96, .f32⟩
  | .local _ .vmem, ⟨12, _⟩ => ⟨S96x256, .f32⟩
  | _, _ => ⟨S12288x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x12288 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4x96x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S12288x1024 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S96x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x96 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== DownReferenceIdeal.lean ====
abbrev S12288x4096 : Shape := ⟨2, ![12288, 4096]⟩
abbrev S96x32 : Shape := ⟨2, ![96, 32]⟩
abbrev S12288x8192 : Shape := ⟨2, ![12288, 8192]⟩
abbrev S96x8192 : Shape := ⟨2, ![96, 8192]⟩
abbrev S8192x4096 : Shape := ⟨2, ![8192, 4096]⟩
abbrev S8192x96 : Shape := ⟨2, ![8192, 96]⟩
abbrev S96x128x8192 : Shape := ⟨3, ![96, 128, 8192]⟩
abbrev S96x128x4096 : Shape := ⟨3, ![96, 128, 4096]⟩
abbrev S96x8192x4096 : Shape := ⟨3, ![96, 8192, 4096]⟩
abbrev S96x32x1 : Shape := ⟨3, ![96, 32, 1]⟩
abbrev S96x32x128 : Shape := ⟨3, ![96, 32, 128]⟩
abbrev S96x4096 : Shape := ⟨2, ![96, 4096]⟩
abbrev S96x8192x1 : Shape := ⟨3, ![96, 8192, 1]⟩
abbrev S96x1x4096 : Shape := ⟨3, ![96, 1, 4096]⟩

abbrev nBuf : Space → Nat
  | .hbm => 6
  | .vmem => 6
  | .smem => 0
  | _ => 0

abbrev bufTy : (tb : Table) → Fin (tcTables nBuf tb) → BufTy
  | .hbm, ⟨0, _⟩ => ⟨S12288x4096, .fp8e4m3⟩
  | .hbm, ⟨1, _⟩ => ⟨S96x32, .f32⟩
  | .hbm, ⟨2, _⟩ => ⟨S12288x8192, .fp8e4m3⟩
  | .hbm, ⟨3, _⟩ => ⟨S96x8192, .f32⟩
  | .hbm, ⟨4, _⟩ => ⟨S8192x4096, .f32⟩
  | .hbm, ⟨5, _⟩ => ⟨S8192x96, .f32⟩
  | .local _ .vmem, ⟨0, _⟩ => ⟨S12288x4096, .fp8e4m3⟩
  | .local _ .vmem, ⟨1, _⟩ => ⟨S96x32, .f32⟩
  | .local _ .vmem, ⟨2, _⟩ => ⟨S12288x8192, .fp8e4m3⟩
  | .local _ .vmem, ⟨3, _⟩ => ⟨S96x8192, .f32⟩
  | .local _ .vmem, ⟨4, _⟩ => ⟨S8192x4096, .f32⟩
  | .local _ .vmem, ⟨5, _⟩ => ⟨S8192x96, .f32⟩
  | _, _ => ⟨S12288x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S12288x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S96x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12288x8192 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S96x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8192x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== GateUp.lean ====
abbrev S4096x24576 : Shape := ⟨2, ![4096, 24576]⟩
abbrev S32x192 : Shape := ⟨2, ![32, 192]⟩
abbrev S4096x8192 : Shape := ⟨2, ![4096, 8192]⟩
abbrev S32x8192 : Shape := ⟨2, ![32, 8192]⟩
abbrev S24576x4096 : Shape := ⟨2, ![24576, 4096]⟩
abbrev S192x32 : Shape := ⟨2, ![192, 32]⟩
abbrev S192x32x1 : Shape := ⟨3, ![192, 32, 1]⟩
abbrev S192x32x128 : Shape := ⟨3, ![192, 32, 128]⟩
abbrev S12288x8192 : Shape := ⟨2, ![12288, 8192]⟩
abbrev S8192x12288 : Shape := ⟨2, ![8192, 12288]⟩
abbrev S96x8192 : Shape := ⟨2, ![96, 8192]⟩
abbrev S512x4096 : Shape := ⟨2, ![512, 4096]⟩
abbrev S4x32x128 : Shape := ⟨3, ![4, 32, 128]⟩
abbrev S4096x1024 : Shape := ⟨2, ![4096, 1024]⟩
abbrev S32x1024 : Shape := ⟨2, ![32, 1024]⟩
abbrev S512x1024 : Shape := ⟨2, ![512, 1024]⟩
abbrev S1024x512 : Shape := ⟨2, ![1024, 512]⟩
abbrev S96x1024 : Shape := ⟨2, ![96, 1024]⟩
abbrev S32x256 : Shape := ⟨2, ![32, 256]⟩
abbrev S1x32x128 : Shape := ⟨3, ![1, 32, 128]⟩
abbrev S32x128 : Shape := ⟨2, ![32, 128]⟩
abbrev S128x128 : Shape := ⟨2, ![128, 128]⟩
abbrev S128x256 : Shape := ⟨2, ![128, 256]⟩
abbrev S1x256 : Shape := ⟨2, ![1, 256]⟩
abbrev S256 : Shape := ⟨1, ![256]⟩
abbrev S277x1x256 : Shape := ⟨3, ![277, 1, 256]⟩
abbrev S1x1x256 : Shape := ⟨3, ![1, 1, 256]⟩
abbrev S256x128 : Shape := ⟨2, ![256, 128]⟩

abbrev nBuf : Space → Nat
  | .hbm => 11
  | .vmem => 20
  | .smem => 0
  | _ => 0

abbrev bufTy : (tb : Table) → Fin (tcTables nBuf tb) → BufTy
  | .hbm, ⟨0, _⟩ => ⟨S4096x24576, .fp8e4m3⟩
  | .hbm, ⟨1, _⟩ => ⟨S32x192, .f32⟩
  | .hbm, ⟨2, _⟩ => ⟨S4096x8192, .fp8e4m3⟩
  | .hbm, ⟨3, _⟩ => ⟨S32x8192, .f32⟩
  | .hbm, ⟨4, _⟩ => ⟨S24576x4096, .fp8e4m3⟩
  | .hbm, ⟨5, _⟩ => ⟨S192x32, .f32⟩
  | .hbm, ⟨6, _⟩ => ⟨S192x32x1, .f32⟩
  | .hbm, ⟨7, _⟩ => ⟨S192x32x128, .f32⟩
  | .hbm, ⟨8, _⟩ => ⟨S12288x8192, .fp8e4m3⟩
  | .hbm, ⟨9, _⟩ => ⟨S8192x12288, .fp8e4m3⟩
  | .hbm, ⟨10, _⟩ => ⟨S96x8192, .f32⟩
  | .local _ .vmem, ⟨0, _⟩ => ⟨S512x4096, .fp8e4m3⟩
  | .local _ .vmem, ⟨1, _⟩ => ⟨S512x4096, .fp8e4m3⟩
  | .local _ .vmem, ⟨2, _⟩ => ⟨S512x4096, .fp8e4m3⟩
  | .local _ .vmem, ⟨3, _⟩ => ⟨S512x4096, .fp8e4m3⟩
  | .local _ .vmem, ⟨4, _⟩ => ⟨S4x32x128, .f32⟩
  | .local _ .vmem, ⟨5, _⟩ => ⟨S4x32x128, .f32⟩
  | .local _ .vmem, ⟨6, _⟩ => ⟨S4x32x128, .f32⟩
  | .local _ .vmem, ⟨7, _⟩ => ⟨S4x32x128, .f32⟩
  | .local _ .vmem, ⟨8, _⟩ => ⟨S4096x1024, .fp8e4m3⟩
  | .local _ .vmem, ⟨9, _⟩ => ⟨S4096x1024, .fp8e4m3⟩
  | .local _ .vmem, ⟨10, _⟩ => ⟨S32x1024, .f32⟩
  | .local _ .vmem, ⟨11, _⟩ => ⟨S32x1024, .f32⟩
  | .local _ .vmem, ⟨12, _⟩ => ⟨S512x1024, .fp8e4m3⟩
  | .local _ .vmem, ⟨13, _⟩ => ⟨S512x1024, .fp8e4m3⟩
  | .local _ .vmem, ⟨14, _⟩ => ⟨S1024x512, .fp8e4m3⟩
  | .local _ .vmem, ⟨15, _⟩ => ⟨S1024x512, .fp8e4m3⟩
  | .local _ .vmem, ⟨16, _⟩ => ⟨S96x1024, .f32⟩
  | .local _ .vmem, ⟨17, _⟩ => ⟨S96x1024, .f32⟩
  | .local _ .vmem, ⟨18, _⟩ => ⟨S32x256, .f32⟩
  | .local _ .vmem, ⟨19, _⟩ => ⟨S32x256, .f32⟩
  | _, _ => ⟨S4096x24576, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 24], ![false, false]⟩

def k0_off1 (i : grid0.Coords) (c0_i32_420 : BitVec 32) : Fin 2 → Nat :=
  let arg1 : BitVec 32 := BitVec.ofNat 32 (i 1).val
  let c4_i32 : BitVec 32 := 4#32
  let v603 : BitVec 32 := Scalar.muli arg1 c4_i32
  let v604 : BitVec 32 := Scalar.addi v603 c0_i32_420
  let v605 : Index := Scalar.indexCast v604
  let c0_421 : Index := 0#32
  ![v605.toNat, 0]
def k0_off2 (i : grid0.Coords) (c0_i32_913 : BitVec 32) : Fin 2 → Nat :=
  let arg1 : BitVec 32 := BitVec.ofNat 32 (i 1).val
  let c4_i32_912 : BitVec 32 := 4#32
  let v1210 : BitVec 32 := Scalar.muli arg1 c4_i32_912
  let v1211 : BitVec 32 := Scalar.addi v1210 c0_i32_913
  let v1212 : Index := Scalar.indexCast v1211
  let c256_914 : Index := 256#32
  ![v1212.toNat, 256]
def k0_off3 (i : grid0.Coords) (c0_i32_1406 : BitVec 32) : Fin 2 → Nat :=
  let arg1 : BitVec 32 := BitVec.ofNat 32 (i 1).val
  let c4_i32_1405 : BitVec 32 := 4#32
  let v1817 : BitVec 32 := Scalar.muli arg1 c4_i32_1405
  let v1818 : BitVec 32 := Scalar.addi v1817 c0_i32_1406
  let v1819 : Index := Scalar.indexCast v1818
  let c512_1407 : Index := 512#32
  ![v1819.toNat, 512]
def k0_off4 (i : grid0.Coords) (c0_i32_1899 : BitVec 32) : Fin 2 → Nat :=
  let arg1 : BitVec 32 := BitVec.ofNat 32 (i 1).val
  let c4_i32_1898 : BitVec 32 := 4#32
  let v2424 : BitVec 32 := Scalar.muli arg1 c4_i32_1898
  let v2425 : BitVec 32 := Scalar.addi v2424 c0_i32_1899
  let v2426 : Index := Scalar.indexCast v2425
  let c768_1900 : Index := 768#32
  ![v2426.toNat, 768]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi arg1 c24_i32
  let c0_i32 : BitVec 32 := 0#32
  let c0_i32_0 : BitVec 32 := 0#32
  ![v0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.addi arg1 c24_i32
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x4096 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x4096 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4x32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S4096x1024 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S96x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== GateUpReferenceIdeal.lean ====
abbrev S4096x24576 : Shape := ⟨2, ![4096, 24576]⟩
abbrev S32x192 : Shape := ⟨2, ![32, 192]⟩
abbrev S4096x8192 : Shape := ⟨2, ![4096, 8192]⟩
abbrev S32x8192 : Shape := ⟨2, ![32, 8192]⟩
abbrev S12288x8192 : Shape := ⟨2, ![12288, 8192]⟩
abbrev S8192x12288 : Shape := ⟨2, ![8192, 12288]⟩
abbrev S96x8192 : Shape := ⟨2, ![96, 8192]⟩
abbrev S32x128x8192 : Shape := ⟨3, ![32, 128, 8192]⟩
abbrev S32x128x24576 : Shape := ⟨3, ![32, 128, 24576]⟩
abbrev S32x8192x24576 : Shape := ⟨3, ![32, 8192, 24576]⟩
abbrev S32x192x1 : Shape := ⟨3, ![32, 192, 1]⟩
abbrev S32x192x128 : Shape := ⟨3, ![32, 192, 128]⟩
abbrev S32x24576 : Shape := ⟨2, ![32, 24576]⟩
abbrev S32x8192x1 : Shape := ⟨3, ![32, 8192, 1]⟩
abbrev S32x1x24576 : Shape := ⟨3, ![32, 1, 24576]⟩
abbrev S8192x24576 : Shape := ⟨2, ![8192, 24576]⟩
abbrev S8192x96x128 : Shape := ⟨3, ![8192, 96, 128]⟩
abbrev S8192x96 : Shape := ⟨2, ![8192, 96]⟩
abbrev S8192x96x277 : Shape := ⟨3, ![8192, 96, 277]⟩
abbrev S8192x96x1 : Shape := ⟨3, ![8192, 96, 1]⟩

abbrev nBuf : Space → Nat
  | .hbm => 7
  | .vmem => 7
  | .smem => 0
  | _ => 0

abbrev bufTy : (tb : Table) → Fin (tcTables nBuf tb) → BufTy
  | .hbm, ⟨0, _⟩ => ⟨S4096x24576, .fp8e4m3⟩
  | .hbm, ⟨1, _⟩ => ⟨S32x192, .f32⟩
  | .hbm, ⟨2, _⟩ => ⟨S4096x8192, .fp8e4m3⟩
  | .hbm, ⟨3, _⟩ => ⟨S32x8192, .f32⟩
  | .hbm, ⟨4, _⟩ => ⟨S12288x8192, .fp8e4m3⟩
  | .hbm, ⟨5, _⟩ => ⟨S8192x12288, .fp8e4m3⟩
  | .hbm, ⟨6, _⟩ => ⟨S96x8192, .f32⟩
  | .local _ .vmem, ⟨0, _⟩ => ⟨S4096x24576, .fp8e4m3⟩
  | .local _ .vmem, ⟨1, _⟩ => ⟨S32x192, .f32⟩
  | .local _ .vmem, ⟨2, _⟩ => ⟨S4096x8192, .fp8e4m3⟩
  | .local _ .vmem, ⟨3, _⟩ => ⟨S32x8192, .f32⟩
  | .local _ .vmem, ⟨4, _⟩ => ⟨S12288x8192, .fp8e4m3⟩
  | .local _ .vmem, ⟨5, _⟩ => ⟨S8192x12288, .fp8e4m3⟩
  | .local _ .vmem, ⟨6, _⟩ => ⟨S96x8192, .f32⟩
  | _, _ => ⟨S4096x24576, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S4096x24576 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x8192 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12288x8192 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8192x12288 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S96x8192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== QuantX.lean ====
abbrev S2x4096x4096 : Shape := ⟨3, ![2, 4096, 4096]⟩
abbrev S8192x4096 : Shape := ⟨2, ![8192, 4096]⟩
abbrev S8192x32 : Shape := ⟨2, ![8192, 32]⟩
abbrev S4096x8192 : Shape := ⟨2, ![4096, 8192]⟩
abbrev S32x8192 : Shape := ⟨2, ![32, 8192]⟩
abbrev S256x4096 : Shape := ⟨2, ![256, 4096]⟩
abbrev S256x32 : Shape := ⟨2, ![256, 32]⟩
abbrev S4096x256 : Shape := ⟨2, ![4096, 256]⟩
abbrev S32x256 : Shape := ⟨2, ![32, 256]⟩
abbrev S32x128x256 : Shape := ⟨3, ![32, 128, 256]⟩
abbrev S32x1x256 : Shape := ⟨3, ![32, 1, 256]⟩

abbrev nBuf : Space → Nat
  | .hbm => 6
  | .vmem => 10
  | .smem => 0
  | _ => 0

abbrev bufTy : (tb : Table) → Fin (tcTables nBuf tb) → BufTy
  | .hbm, ⟨0, _⟩ => ⟨S2x4096x4096, .f32⟩
  | .hbm, ⟨1, _⟩ => ⟨S8192x4096, .f32⟩
  | .hbm, ⟨2, _⟩ => ⟨S8192x4096, .fp8e4m3⟩
  | .hbm, ⟨3, _⟩ => ⟨S8192x32, .f32⟩
  | .hbm, ⟨4, _⟩ => ⟨S4096x8192, .fp8e4m3⟩
  | .hbm, ⟨5, _⟩ => ⟨S32x8192, .f32⟩
  | .local _ .vmem, ⟨0, _⟩ => ⟨S256x4096, .f32⟩
  | .local _ .vmem, ⟨1, _⟩ => ⟨S256x4096, .f32⟩
  | .local _ .vmem, ⟨2, _⟩ => ⟨S256x4096, .fp8e4m3⟩
  | .local _ .vmem, ⟨3, _⟩ => ⟨S256x4096, .fp8e4m3⟩
  | .local _ .vmem, ⟨4, _⟩ => ⟨S256x32, .f32⟩
  | .local _ .vmem, ⟨5, _⟩ => ⟨S256x32, .f32⟩
  | .local _ .vmem, ⟨6, _⟩ => ⟨S4096x256, .fp8e4m3⟩
  | .local _ .vmem, ⟨7, _⟩ => ⟨S4096x256, .fp8e4m3⟩
  | .local _ .vmem, ⟨8, _⟩ => ⟨S32x256, .f32⟩
  | .local _ .vmem, ⟨9, _⟩ => ⟨S32x256, .f32⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev main_v1_3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [BitOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x256 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== QuantXReference.lean ====
abbrev S2x4096x4096 : Shape := ⟨3, ![2, 4096, 4096]⟩
abbrev S8192x4096 : Shape := ⟨2, ![8192, 4096]⟩
abbrev S8192x32 : Shape := ⟨2, ![8192, 32]⟩
abbrev S4096x8192 : Shape := ⟨2, ![4096, 8192]⟩
abbrev S32x8192 : Shape := ⟨2, ![32, 8192]⟩
abbrev S8192x32x128 : Shape := ⟨3, ![8192, 32, 128]⟩
abbrev S8192x32x1 : Shape := ⟨3, ![8192, 32, 1]⟩

abbrev nBuf : Space → Nat
  | .hbm => 6
  | .vmem => 5
  | .smem => 0
  | _ => 0

abbrev bufTy : (tb : Table) → Fin (tcTables nBuf tb) → BufTy
  | .hbm, ⟨0, _⟩ => ⟨S2x4096x4096, .f32⟩
  | .hbm, ⟨1, _⟩ => ⟨S8192x4096, .f32⟩
  | .hbm, ⟨2, _⟩ => ⟨S8192x4096, .fp8e4m3⟩
  | .hbm, ⟨3, _⟩ => ⟨S8192x32, .f32⟩
  | .hbm, ⟨4, _⟩ => ⟨S4096x8192, .fp8e4m3⟩
  | .hbm, ⟨5, _⟩ => ⟨S32x8192, .f32⟩
  | .local _ .vmem, ⟨0, _⟩ => ⟨S8192x4096, .f32⟩
  | .local _ .vmem, ⟨1, _⟩ => ⟨S8192x4096, .fp8e4m3⟩
  | .local _ .vmem, ⟨2, _⟩ => ⟨S8192x32, .f32⟩
  | .local _ .vmem, ⟨3, _⟩ => ⟨S4096x8192, .fp8e4m3⟩
  | .local _ .vmem, ⟨4, _⟩ => ⟨S32x8192, .f32⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev main_v1_3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [BitOps F]

abbrev grid0 : Pipeline.Grid := .none

abbrev stage0_0 : Fin 1 → Memref sig .tc .vmem S8192x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x4096 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x8192 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Down.Run.lean ====
module

public import proofs.«01_k».proof.Proof.Gen.DownIdeal.Frame
public import proofs.«01_k».proof.Proof.Gen.DownIdeal.Skeleton
public import Idealize.ShloMosaic.Lib.Exec

@[expose] public section

set_option maxRecDepth 16384

noncomputable section

namespace Cert.DownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 22092000 in
/-- The down body on whole staging memrefs: the inputs end as they were, the tile of the product at the stored pieces,
    the scales' block at what the guarded first store left in it. -/
def downRun (c : Dev nD) (i : grid0.Coords) (arg2 : Memref sig .tc .vmem S512x12288 .fp8e4m3) (harg2 : arg2.IsWhole) (arg3 : Memref sig .tc .vmem S4x96x128 .f32) (harg3 : arg3.IsWhole) (arg4 : Memref sig .tc .vmem S12288x1024 .fp8e4m3) (harg4 : arg4.IsWhole) (arg5 : Memref sig .tc .vmem S96x1024 .f32) (harg5 : arg5.IsWhole) (arg6 : Memref sig .tc .vmem S1024x512 .f32) (harg6 : arg6.IsWhole) (arg7 : Memref sig .tc .vmem S1024x96 .f32) (harg7 : arg7.IsWhole) (arg8 : Memref sig .tc .vmem S96x256 .f32) (harg8 : arg8.IsWhole)
    (x0 : Vec F S512x12288 .fp8e4m3) (x1 : Vec F S4x96x128 .f32) (x2 : Vec F S12288x1024 .fp8e4m3) (x3 : Vec F S96x1024 .f32) (x5 : Vec F S1024x96 .f32) :
    Σ' (L : List (View.Piece (Elt F) S1024x512 .f32)), { g : Buf (Elt F) (arg7.view.loc (c : Thread nD τ)) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare x5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L) ∗ (arg7.view.loc (c : Thread nD τ) ↦[arg7.view.set]{fullShare} g) ∗ (∃ d, owns (c : Thread nD τ) arg8 fullShare d)) -∗ K ⟨⟩))
          ⊢ wp frame (wpE (defs₀ (F := F)) Variants.none c none) E (cc0_down i arg2 harg2 arg3 harg3 arg4 harg4 arg5 harg5 arg6 harg6 arg7 harg7 arg8 harg8) K } := by
  refine ⟨?_, ?_, fun E K => ?run⟩
  case run =>
    simp only [cc0_down_eq_skeleton]; unfold cc0_down_skel
    simp only [k0_part396_eq_skeleton, k0_part390_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part391_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part392_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part393_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part394_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part395_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part361_eq_skeleton, k0_part362_eq_skeleton, k0_part363_eq_skeleton, k0_part364_eq_skeleton, k0_part365_eq_skeleton, k0_part366_eq_skeleton, k0_part367_eq_skeleton, k0_part368_eq_skeleton, k0_part369_eq_skeleton, k0_part370_eq_skeleton, k0_part371_eq_skeleton, k0_part372_eq_skeleton, k0_part373_eq_skeleton, k0_part374_eq_skeleton, k0_part375_eq_skeleton, k0_part376_eq_skeleton, k0_part377_eq_skeleton, k0_part378_eq_skeleton, k0_part379_eq_skeleton, k0_part380_eq_skeleton, k0_part381_eq_skeleton, k0_part382_eq_skeleton, k0_part383_eq_skeleton, k0_part384_eq_skeleton, k0_part385_eq_skeleton, k0_part386_eq_skeleton, k0_part387_eq_skeleton, k0_part388_eq_skeleton, k0_part389_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg7.eq_unread hf5
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexact H5
    iexists _, _; isplitr; swap; · iexact HS0
    ipureintro; rfl

end Cert.DownIdeal.Gen

end
-- ==== Proof.Common.Sums.lean ====
module

public import Idealize.ShloMosaic.Lib.MatmulPlain
public import Idealize.ShloMosaic.Lib.ValueIdx
public import Idealize.ShloMosaic.Lib.ValueLayout
public import Idealize.ShloMosaic.Lib.Pointwise
public import Idealize.ShloMosaic.Lib.Pipeline.Value
public import Idealize.ShloMosaic.Lib.Pipeline.FrameBody

@[expose] public section

set_option maxRecDepth 16384

noncomputable section

namespace Cert.Common

open Idealize.ShloMosaic
open scoped BigOperators

/-- The shape of `m` rows and `n` columns. -/
abbrev Sh2 (m n : ℕ) : Shape := ⟨2, ![m, n]⟩
/-- The shape of `l` planes of `m` rows and `n` columns. -/
abbrev Sh3 (l m n : ℕ) : Shape := ⟨3, ![l, m, n]⟩

/-- An array's entry by its two coordinates as naturals, zero outside the array. -/
def at2 {m n : ℕ} (x : (Sh2 m n).Idx → EReal) (i j : ℕ) : EReal :=
  if h : i < m ∧ j < n then x (ix2 ⟨i, h.1⟩ ⟨j, h.2⟩) else 0

theorem at2_fin {m n : ℕ} (x : (Sh2 m n).Idx → EReal) (i : Fin m) (j : Fin n) : at2 x i j = x (ix2 i j) := by
  unfold at2; rw [dif_pos ⟨i.2, j.2⟩]

theorem at2_of_lt {m n : ℕ} (x : (Sh2 m n).Idx → EReal) {i j : ℕ} (hi : i < m) (hj : j < n) :
    at2 x i j = x (ix2 ⟨i, hi⟩ ⟨j, hj⟩) := by
  unfold at2; rw [dif_pos ⟨hi, hj⟩]

/-- An array's entry by its three coordinates as naturals, zero outside the array. -/
def at3 {l m n : ℕ} (x : (Sh3 l m n).Idx → EReal) (a i j : ℕ) : EReal :=
  if h : a < l ∧ i < m ∧ j < n then x (ix3 ⟨a, h.1⟩ ⟨i, h.2.1⟩ ⟨j, h.2.2⟩) else 0

theorem at3_of_lt {l m n : ℕ} (x : (Sh3 l m n).Idx → EReal) {a i j : ℕ} (ha : a < l) (hi : i < m) (hj : j < n) :
    at3 x a i j = x (ix3 ⟨a, ha⟩ ⟨i, hi⟩ ⟨j, hj⟩) := by
  unfold at3; rw [dif_pos ⟨ha, hi, hj⟩]

/-- The block `v` holds the entries of `f` from row `r` and column `c` on. -/
def IsBlk (f : ℕ → ℕ → EReal) (r c : ℕ) {m n : ℕ} (v : (Sh2 m n).Idx → EReal) : Prop :=
  ∀ (i : Fin m) (j : Fin n), v (ix2 i j) = f (r + i) (c + j)

/-- One group's share of a group scaled product: the product over the 128 columns of the group, then its scale. -/
def gterm (W A S : ℕ → ℕ → EReal) (g i j : ℕ) : EReal :=
  (∑ k ∈ Finset.range 128, W i (128 * g + k) * A (128 * g + k) j) * S g j

/-- The block `v` holds the sum of the first `n` groups' shares. -/
def Row (W A S : ℕ → ℕ → EReal) (n : ℕ) {p q : ℕ} (v : (Sh2 p q).Idx → EReal) : Prop :=
  ∀ (i : Fin p) (j : Fin q), v (ix2 i j) = ∑ g ∈ Finset.range n, gterm W A S g i j

/-- One group's product, scaled by the row of scales, is that group's share. -/
theorem part_eq {W A S : ℕ → ℕ → EReal} {n p q : ℕ} {φ₁ φ₂ : FTy} {prec : Option ContractPrecision} {c : ℕ}
    {w : FVec Ideal (Sh2 p 128) φ₁} {a : FVec Ideal (Sh2 128 q) φ₂} {s : FVec Ideal (Sh2 1 q) .f32}
    {hb : (Sh2 1 q).Broadcasts (Sh2 p q)} (hc : c = 128 * n)
    (hw : IsBlk W 0 c w) (ha : IsBlk A c 0 a) (hs : IsBlk S n 0 s) (i : Fin p) (j : Fin q) :
    mulf (matmul (DotDims.plain p 128 q) prec w a (constant (Sh2 p q) .f32 0x00000000#32))
      (broadcastTo (Sh2 p q) s hb) (ix2 i j) = gterm W A S n i j := by
  subst hc
  have e1 : FloatOps.matmul (DotDims.plain p 128 q) prec w a (constant (F := Ideal) (Sh2 p q) .f32 0x00000000#32) (ix2 i j)
      = constant (F := Ideal) (Sh2 p q) .f32 0x00000000#32 (ix2 i j) + ∑ k : Fin 128, w (ix2 i k) * a (ix2 k j) :=
    Ideal.matmul_plain_apply prec w a (constant (Sh2 p q) .f32 0x00000000#32) i j
  have e2 : broadcastTo (Sh2 p q) s hb (ix2 i j) = s (ix2 0 j) := ValueIdx.broadcastTo_1b_ab_apply s hb i j
  have e3 : constant (F := Ideal) (Sh2 p q) .f32 0x00000000#32 (ix2 i j) = (0 : EReal) := Ideal.ofBits_zero_f32
  rw [ValueIdx.mulf_apply]
  unfold matmul
  rw [e1, e2, e3, zero_add, hs]
  unfold gterm
  rw [Finset.sum_range]
  refine congr (congrArg _ (Finset.sum_congr rfl fun k _ => ?_)) (by simp)
  rw [hw, ha]; simp

/-- The first group's share alone. -/
theorem Row.first {W A S : ℕ → ℕ → EReal} {p q : ℕ} {φ₁ φ₂ : FTy} {prec : Option ContractPrecision}
    {w : FVec Ideal (Sh2 p 128) φ₁} {a : FVec Ideal (Sh2 128 q) φ₂} {s : FVec Ideal (Sh2 1 q) .f32}
    {hb : (Sh2 1 q).Broadcasts (Sh2 p q)}
    (hw : IsBlk W 0 0 w) (ha : IsBlk A 0 0 a) (hs : IsBlk S 0 0 s) :
    Row W A S 1 (mulf (matmul (DotDims.plain p 128 q) prec w a (constant (Sh2 p q) .f32 0x00000000#32))
      (broadcastTo (Sh2 p q) s hb)) := fun i j => by
  rw [part_eq (n := 0) rfl hw ha hs, Finset.sum_range_one]

/-- One more group's share on top of the sum so far. -/
theorem Row.step {W A S : ℕ → ℕ → EReal} {n m p q : ℕ} {φ₁ φ₂ : FTy} {prec : Option ContractPrecision} {c : ℕ}
    {v : FVec Ideal (Sh2 p q) .f32}
    {w : FVec Ideal (Sh2 p 128) φ₁} {a : FVec Ideal (Sh2 128 q) φ₂} {s : FVec Ideal (Sh2 1 q) .f32}
    {hb : (Sh2 1 q).Broadcasts (Sh2 p q)} (hm : m = n + 1) (hc : c = 128 * n)
    (hv : Row W A S n v) (hw : IsBlk W 0 c w) (ha : IsBlk A c 0 a) (hs : IsBlk S n 0 s) :
    Row W A S m (addf v (mulf (matmul (DotDims.plain p 128 q) prec w a (constant (Sh2 p q) .f32 0x00000000#32))
      (broadcastTo (Sh2 p q) s hb))) := fun i j => by
  subst hm
  rw [ValueIdx.addf_apply, part_eq hc hw ha hs, hv, Finset.sum_range_succ]

/-- A block of an array, read as a block of its entries from another corner. -/
theorem IsBlk.of_ld {M N m n : ℕ} {x : (Sh2 M N).Idx → EReal} {R C r c : ℕ} {off : Fin 2 → ℕ}
    {v : (Sh2 m n).Idx → EReal} {f : ℕ → ℕ → EReal}
    (hf : ∀ i j, f i j = at2 x (R + i) (C + j))
    (h : ∀ (i : Fin m) (j : Fin n), v (ix2 i j) = at2 x (R + (r + i)) (C + (c + j))) : IsBlk f r c v :=
  fun i j => by rw [h, hf]

end Cert.Common

end
-- ==== Proof.Common.Loads.lean ====
module

public import proofs.«01_k».proof.Proof.Common.Sums
public import Idealize.ShloMosaic.Lib.Pipeline.Frame
public import Idealize.ShloMosaic.Lib.Pipeline.ValueKit
public import Idealize.ShloMosaic.Lib.Exec

@[expose] public section

set_option maxRecDepth 16384

noncomputable section

namespace Cert.Common

open Idealize.ShloMosaic
open scoped BigOperators

variable {sig : RefSig} {κ : Kind} {sp : Space}

/-- A load of a block of a whole memref reads the entries from the block's corner on. -/
theorem readAt_ix2 {M N m n : ℕ} {e : EltTy} (mr : Memref sig κ sp (Sh2 M N) e) (h : mr.IsWhole)
    (x : (Sh2 M N).Idx → Elt Ideal e) {R C : ℕ} (inb : ∀ a, (![R, C] : Fin 2 → ℕ) a + (Sh2 m n).size a ≤ (Sh2 M N).size a)
    (i : Fin m) (j : Fin n) (h0 : R + i < M) (h1 : C + j < N) :
    View.readAt (Elt Ideal) mr.view (Rect.unit (s := Sh2 M N) ![R, C] (Sh2 m n).size inb).toLoadRect
      (h.unread (Val := Elt Ideal) x) (show (Sh2 m n).Idx from ix2 i j) = x (ix2 ⟨R + i, h0⟩ ⟨C + j, h1⟩) := by
  rw [View.readAt_apply, h.read_unread]
  refine congrArg x (funext fun a => ?_)
  match a with
  | ⟨0, _⟩ => exact Fin.ext (show R + 1 * i.val = R + i.val by omega)
  | ⟨1, _⟩ => exact Fin.ext (show C + 1 * j.val = C + j.val by omega)

/-- A load of a plane of a whole memref of rank three reads that plane. -/
theorem readAt_ix3 {L M N m n : ℕ} {e : EltTy} (mr : Memref sig κ sp (Sh3 L M N) e) (h : mr.IsWhole)
    (x : (Sh3 L M N).Idx → Elt Ideal e) {P R C : ℕ}
    (inb : ∀ a, (![P, R, C] : Fin 3 → ℕ) a + (Sh3 1 m n).size a ≤ (Sh3 L M N).size a)
    (i : Fin m) (j : Fin n) (hp : P < L) (h0 : R + i < M) (h1 : C + j < N) :
    View.readAt (Elt Ideal) mr.view (Rect.unit (s := Sh3 L M N) ![P, R, C] (Sh3 1 m n).size inb).toLoadRect
      (h.unread (Val := Elt Ideal) x) (show (Sh3 1 m n).Idx from ix3 0 i j) = x (ix3 ⟨P, hp⟩ ⟨R + i, h0⟩ ⟨C + j, h1⟩) := by
  rw [View.readAt_apply, h.read_unread]
  refine congrArg x (funext fun a => ?_)
  match a with
  | ⟨0, _⟩ => exact Fin.ext (show P + 1 * 0 = P by omega)
  | ⟨1, _⟩ => exact Fin.ext (show R + 1 * i.val = R + i.val by omega)
  | ⟨2, _⟩ => exact Fin.ext (show C + 1 * j.val = C + j.val by omega)

/-- The weights' tile of one group: rows from `R` on, the group's columns. -/
theorem leaf_w {M N m n : ℕ} {mr : Memref sig κ sp (Sh2 M N) .fp8e4m3} {h : mr.IsWhole} {x : (Sh2 M N).Idx → EReal} {R C : ℕ}
    {inb : ∀ a, (![R, C] : Fin 2 → ℕ) a + (Sh2 m n).size a ≤ (Sh2 M N).size a} {hc : (Sh2 m n).ShapeCasts (Sh2 m n)} :
    IsBlk (fun i k => at2 x (R + i) k) 0 C
      (shapeCast (Sh2 m n) (show (Sh2 m n).Idx → EReal from View.readAt (Elt Ideal) mr.view
        (Rect.unit (s := Sh2 M N) ![R, C] (Sh2 m n).size inb).toLoadRect (h.unread (Val := Elt Ideal) x)) hc) := fun i j => by
  have h0 : R + m ≤ M := inb 0
  have h1 : C + n ≤ N := inb 1
  rw [shapeCast_id]
  refine (readAt_ix2 mr h x inb i j (by omega) (by omega)).trans ?_
  simp only [Nat.zero_add]
  exact (at2_of_lt x _ _).symm

/-- The activations' tile of one group: the group's rows, columns from `C` on. -/
theorem leaf_a {M N m n : ℕ} {mr : Memref sig κ sp (Sh2 M N) .fp8e4m3} {h : mr.IsWhole} {x : (Sh2 M N).Idx → EReal} {R C : ℕ}
    {inb : ∀ a, (![R, C] : Fin 2 → ℕ) a + (Sh2 m n).size a ≤ (Sh2 M N).size a} :
    IsBlk (fun k j => at2 x k (C + j)) R 0
      (show (Sh2 m n).Idx → EReal from View.readAt (Elt Ideal) mr.view
        (Rect.unit (s := Sh2 M N) ![R, C] (Sh2 m n).size inb).toLoadRect (h.unread (Val := Elt Ideal) x)) := fun i j => by
  have h0 : R + m ≤ M := inb 0
  have h1 : C + n ≤ N := inb 1
  refine (readAt_ix2 mr h x inb i j (by omega) (by omega)).trans ?_
  simp only [Nat.zero_add]
  exact (at2_of_lt x _ _).symm

/-- The scales of one unit: the activations' scales from column `C` on times the weights' scales of block `P`, which
    repeat after 128 columns. -/
theorem scales_blk {G T L : ℕ} {mx : Memref sig κ sp (Sh2 G T) .f32} {hx : mx.IsWhole} {x : (Sh2 G T).Idx → EReal}
    {mw : Memref sig κ sp (Sh3 L G 128) .f32} {hw : mw.IsWhole} {w : (Sh3 L G 128).Idx → EReal} {C P : ℕ}
    {inbx : ∀ a, (![0, C] : Fin 2 → ℕ) a + (Sh2 G 256).size a ≤ (Sh2 G T).size a}
    {inbw : ∀ a, (![P, 0, 0] : Fin 3 → ℕ) a + (Sh3 1 G 128).size a ≤ (Sh3 L G 128).size a}
    {hc1 : (Sh3 1 G 128).ShapeCasts (Sh2 G 128)} {hcat : Shape.Concatenates [Sh2 G 128, Sh2 G 128] (Sh2 G 256) 1}
    {hc2 : (Sh2 G 256).ShapeCasts (Sh2 G 256)} :
    IsBlk (fun g j => at2 x g (C + j) * at3 w P g (j % 128)) 0 0
      (shapeCast (Sh2 G 256) (mulf (F := Ideal) (φ := .f32)
        (show (Sh2 G 256).Idx → EReal from View.readAt (Elt Ideal) mx.view
          (Rect.unit (s := Sh2 G T) ![0, C] (Sh2 G 256).size inbx).toLoadRect (hx.unread (Val := Elt Ideal) x))
        (concatenate (α := EReal) (Sh2 G 256) 1
          [⟨Sh2 G 128, shapeCast (Sh2 G 128) (show (Sh3 1 G 128).Idx → EReal from View.readAt (Elt Ideal) mw.view
            (Rect.unit (s := Sh3 L G 128) ![P, 0, 0] (Sh3 1 G 128).size inbw).toLoadRect (hw.unread (Val := Elt Ideal) w)) hc1⟩,
           ⟨Sh2 G 128, shapeCast (Sh2 G 128) (show (Sh3 1 G 128).Idx → EReal from View.readAt (Elt Ideal) mw.view
            (Rect.unit (s := Sh3 L G 128) ![P, 0, 0] (Sh3 1 G 128).size inbw).toLoadRect (hw.unread (Val := Elt Ideal) w)) hc1⟩]
          hcat)) hc2) := fun i j => by
  have h0 : C + 256 ≤ T := inbx 1
  have h1 : P + 1 ≤ L := inbw 0
  have hX : ∀ (i : Fin G) (j : Fin 256), (View.readAt (Elt Ideal) mx.view
          (Rect.unit (s := Sh2 G T) ![0, C] (Sh2 G 256).size inbx).toLoadRect (hx.unread (Val := Elt Ideal) x) : (Sh2 G 256).Idx → EReal)
          (ix2 i j) = at2 x i (C + j) := fun i j => by
    refine (readAt_ix2 mx hx x inbx i j (by omega) (by omega)).trans ?_
    rw [at2_of_lt x i.2 (by omega)]
    simp only [Nat.zero_add]
  have hY : ∀ (i : Fin G) (k : Fin 128), shapeCast (Sh2 G 128) (show (Sh3 1 G 128).Idx → EReal from View.readAt (Elt Ideal) mw.view
            (Rect.unit (s := Sh3 L G 128) ![P, 0, 0] (Sh3 1 G 128).size inbw).toLoadRect (hw.unread (Val := Elt Ideal) w)) hc1
          (ix2 i k) = at3 w P i k := fun i k => by
    refine (ValueIdx.shapeCast_1ab_ab_apply _ hc1 i k).trans ?_
    refine (readAt_ix3 mw hw w inbw i k h1 (by omega) (by omega)).trans ?_
    rw [at3_of_lt w h1 i.2 k.2]
    simp only [Nat.zero_add]
  simp only [Nat.zero_add]
  rw [← hX]
  generalize (show (Sh2 G 256).Idx → EReal from View.readAt (Elt Ideal) mx.view
          (Rect.unit (s := Sh2 G T) ![0, C] (Sh2 G 256).size inbx).toLoadRect (hx.unread (Val := Elt Ideal) x)) = X at hX ⊢
  generalize shapeCast (Sh2 G 128) (show (Sh3 1 G 128).Idx → EReal from View.readAt (Elt Ideal) mw.view
            (Rect.unit (s := Sh3 L G 128) ![P, 0, 0] (Sh3 1 G 128).size inbw).toLoadRect (hw.unread (Val := Elt Ideal) w)) hc1 = Y at hY ⊢
  pointwise
  congr 1
  split
  · rename_i h
    refine (congrArg Y (funext fun a => ?_)).trans ((hY i ⟨j, h⟩).trans (by rw [Nat.mod_eq_of_lt h]))
    match a with
    | ⟨0, _⟩ => rfl
    | ⟨1, _⟩ => rfl
  · rename_i h
    refine (congrArg Y (funext fun a => ?_)).trans ((hY i ⟨j - 128, by omega⟩).trans (by congr 1; simp only; omega))
    match a with
    | ⟨0, _⟩ => rfl
    | ⟨1, _⟩ => rfl

/-- One row of the scales that the scratch holds whole. -/
theorem leaf_s {S : ℕ → ℕ → EReal} {G q : ℕ} {v : View sig κ sp (Sh2 G q) .f32} {X : FVec Ideal (Sh2 G q) .f32}
    {L : List (View.Piece (Elt Ideal) (Sh2 G q) .f32)} {g : ℕ}
    {inb0 : ∀ a, (![0, 0] : Fin 2 → ℕ) a + (Sh2 G q).size a ≤ (Sh2 G q).size a}
    {inb : ∀ a, (![g, 0] : Fin 2 → ℕ) a + (Sh2 1 q).size a ≤ (Sh2 G q).size a} (hX : IsBlk S 0 0 X) :
    IsBlk S g 0 (show (Sh2 1 q).Idx → EReal from v.readCov (Val := Elt Ideal)
      ((⟨Rect.unit (s := Sh2 G q) ![0, 0] (Sh2 G q).size inb0, X⟩ : View.Piece (Elt Ideal) (Sh2 G q) .f32) :: L)
      (Rect.unit (s := Sh2 G q) ![g, 0] (Sh2 1 q).size inb).toLoadRect) := fun i j => by
  have hg : g + 1 ≤ G := inb 0
  have e : View.canon ((⟨Rect.unit (s := Sh2 G q) ![0, 0] (Sh2 G q).size inb0, X⟩ : View.Piece (Elt Ideal) (Sh2 G q) .f32) :: L) = X :=
    View.canon_cons_unit_zero (S := Sh2 G q) (funext fun a => by match a with | ⟨0, _⟩ => rfl | ⟨1, _⟩ => rfl) inb0 X L
  show v.readCov (Val := Elt Ideal) _ _ (show (Rect.unit (s := Sh2 G q) ![g, 0] (Sh2 1 q).size inb).toLoadRect.shape.Idx from ix2 i j) = _
  rw [View.readCov_eq_canon', e]
  refine (congrArg X (funext fun a => ?_)).trans ((hX ⟨g, hg⟩ j).trans (by simp))
  match a with
  | ⟨0, _⟩ => exact Fin.ext (show g + 1 * i.val = g by omega)
  | ⟨1, _⟩ => exact Fin.ext (show 0 + 1 * j.val = j.val by omega)

/-- The transposed block holds the sum of the first `n` groups' shares. -/
def RowT (W A S : ℕ → ℕ → EReal) (n : ℕ) {p q : ℕ} (v : (Sh2 q p).Idx → EReal) : Prop :=
  ∀ (i : Fin p) (j : Fin q), v (ix2 j i) = ∑ g ∈ Finset.range n, gterm W A S g i j

theorem Row.transpose {W A S : ℕ → ℕ → EReal} {n p q : ℕ} {v : FVec Ideal (Sh2 p q) .f32}
    {ht : (Sh2 p q).Transposes [1, 0] (Sh2 q p)} (h : Row W A S n v) :
    RowT W A S n (Idealize.ShloMosaic.transpose (Sh2 q p) [1, 0] v ht) := fun i j => by
  rw [← h i j]
  exact ValueIdx.transpose_ix2_apply v ht j i

end Cert.Common

end
-- ==== Proof.Down.Value.lean ====
module

public import proofs.«01_k».proof.Proof.Down.Run
public import proofs.«01_k».proof.Proof.Common.Loads
public import Idealize.ShloMosaic.Lib.Tactic.RunNames

@[expose] public section

set_option maxRecDepth 16384

noncomputable section

namespace Cert.DownIdeal.Gen

open Idealize.ShloMosaic Idealize.ShloMosaic.TcCoe Idealize.SL.Sem Cert.Common
open scoped BigOperators

/-- One tile of the product: for a token `t` and an output column `o` of the tile, the sum over the groups of the
    group's product, scaled by the token's scale and the weights' scale. -/
def downY (x0 : Vec Ideal S512x12288 .fp8e4m3) (x1 : Vec Ideal S4x96x128 .f32) (x2 : Vec Ideal S12288x1024 .fp8e4m3)
    (x3 : Vec Ideal S96x1024 .f32) : Vec Ideal S1024x512 .f32 := fun y =>
  ∑ g ∈ Finset.range 96, (∑ k ∈ Finset.range 128, at2 (m := 512) (n := 12288) x0 (y 1) (128 * g + k)
    * at2 (m := 12288) (n := 1024) x2 (128 * g + k) (y 0))
    * (at2 (m := 96) (n := 1024) x3 g (y 0) * at3 (l := 4) (m := 96) (n := 128) x1 ((y 1).val / 128) g ((y 0).val % 128))

/-- Every piece of the list stores `G`'s values at its place. -/
def Stores {s : Shape} {e : EltTy} (G : s.Idx → Elt Ideal e) (L : List (View.Piece (Elt Ideal) s e)) : Prop :=
  ∀ p ∈ L, ∀ x, p.2 x = G (p.1.emb x)

theorem Stores.nil {s : Shape} {e : EltTy} {G : s.Idx → Elt Ideal e} : Stores G ([] : List (View.Piece (Elt Ideal) s e)) :=
  fun p hp => absurd hp List.not_mem_nil

/-- A tile of 256 tokens and 128 columns that holds the sums of all 96 groups, in front of other such tiles. -/
theorem Stores.tile {x0 : Vec Ideal S512x12288 .fp8e4m3} {x1 : Vec Ideal S4x96x128 .f32} {x2 : Vec Ideal S12288x1024 .fp8e4m3}
    {x3 : Vec Ideal S96x1024 .f32} {C R : ℕ} {w : (Sh2 256 128).Idx → EReal}
    {inb : ∀ a, (![C, R] : Fin 2 → ℕ) a + (Sh2 256 128).size a ≤ (Sh2 1024 512).size a}
    {L : List (View.Piece (Elt Ideal) (Sh2 1024 512) .f32)} (hR : R = 128 * (R / 128)) (hC : C = 128 * (C / 128))
    (h : RowT (fun i k => at2 (m := 512) (n := 12288) x0 (R + i) k) (fun k j => at2 (m := 12288) (n := 1024) x2 k (C + j))
      (fun g j => at2 (m := 96) (n := 1024) x3 g (C + j) * at3 (l := 4) (m := 96) (n := 128) x1 (R / 128) g (j % 128)) 96 w)
    (hL : Stores (s := S1024x512) (e := .f32) (downY x0 x1 x2 x3) L) :
    Stores (s := S1024x512) (e := .f32) (downY x0 x1 x2 x3)
      ((⟨Rect.unit (s := Sh2 1024 512) ![C, R] (Sh2 256 128).size inb, w⟩ : View.Piece (Elt Ideal) (Sh2 1024 512) .f32) :: L) := by
  intro p hp
  rcases List.mem_cons.1 hp with rfl | hp
  · intro x
    obtain ⟨j, i, rfl⟩ : ∃ (j : Fin 256) (i : Fin 128), x = ix2 (n0 := 256) (n1 := 128) j i :=
      ⟨x 0, x 1, eq_ix2 (n0 := 256) (n1 := 128) x⟩
    refine (h i j).trans ?_
    have e0 : (((Rect.unit (s := Sh2 1024 512) ![C, R] (Sh2 256 128).size inb).emb
        (ix2 (n0 := 256) (n1 := 128) j i)) 0).val = C + j.val := show C + 1 * j.val = C + j.val by omega
    have e1 : (((Rect.unit (s := Sh2 1024 512) ![C, R] (Sh2 256 128).size inb).emb
        (ix2 (n0 := 256) (n1 := 128) j i)) 1).val = R + i.val := show R + 1 * i.val = R + i.val by omega
    unfold downY gterm
    rw [e0, e1]
    have e2 : (R + i.val) / 128 = R / 128 := by omega
    have e3 : (C + j.val) % 128 = j.val % 128 := by omega
    rw [e2, e3]
  · exact hL p hp

set_option maxHeartbeats 4000000 in
theorem down_stores (c : Dev nD) (i : grid0.Coords) (arg2 : Memref sig .tc .vmem S512x12288 .fp8e4m3) (harg2 : arg2.IsWhole) (arg3 : Memref sig .tc .vmem S4x96x128 .f32) (harg3 : arg3.IsWhole) (arg4 : Memref sig .tc .vmem S12288x1024 .fp8e4m3) (harg4 : arg4.IsWhole) (arg5 : Memref sig .tc .vmem S96x1024 .f32) (harg5 : arg5.IsWhole) (arg6 : Memref sig .tc .vmem S1024x512 .f32) (harg6 : arg6.IsWhole) (arg7 : Memref sig .tc .vmem S1024x96 .f32) (harg7 : arg7.IsWhole) (arg8 : Memref sig .tc .vmem S96x256 .f32) (harg8 : arg8.IsWhole)
    (x0 : Vec Ideal S512x12288 .fp8e4m3) (x1 : Vec Ideal S4x96x128 .f32) (x2 : Vec Ideal S12288x1024 .fp8e4m3) (x3 : Vec Ideal S96x1024 .f32) (x5 : Vec Ideal S1024x96 .f32) :
    Stores (downY x0 x1 x2 x3) (downRun (F := Ideal) c i arg2 harg2 arg3 harg3 arg4 harg4 arg5 harg5 arg6 harg6 arg7 harg7 arg8 harg8 x0 x1 x2 x3 x5).1 := by
  iterate 16
    refine Stores.tile (by rfl) (by rfl) ?_ ?_
    · sl_unfold_run_values
      refine Row.transpose ?_
      iterate 95 refine Row.step (by rfl) (by rfl) ?_ leaf_w leaf_a (leaf_s scales_blk)
      exact Row.first leaf_w leaf_a (leaf_s scales_blk)
  exact Stores.nil

end Cert.DownIdeal.Gen
-- ==== Proof.Down.Stored.lean ====
module

public import proofs.«01_k».proof.Proof.Down.Value
public import Idealize.ShloMosaic.Lib.Pointwise

@[expose] public section

set_option maxRecDepth 16384

noncomputable section

namespace Cert.DownIdeal.Gen

open Idealize.ShloMosaic Idealize.ShloMosaic.TcCoe Idealize.SL.Sem Cert.Common
open scoped BigOperators

/-- The tokens' scales, one row per token. -/
def downS (x3 : Vec Ideal S96x1024 .f32) : Vec Ideal S1024x96 .f32 := fun y => x3 (ix2 (n0 := 96) (n1 := 1024) (y 1) (y 0))

/-- What the run leaves in the product's block. -/
theorem down_y (c : Dev nD) (i : grid0.Coords) (arg2 : Memref sig .tc .vmem S512x12288 .fp8e4m3) (harg2 : arg2.IsWhole) (arg3 : Memref sig .tc .vmem S4x96x128 .f32) (harg3 : arg3.IsWhole) (arg4 : Memref sig .tc .vmem S12288x1024 .fp8e4m3) (harg4 : arg4.IsWhole) (arg5 : Memref sig .tc .vmem S96x1024 .f32) (harg5 : arg5.IsWhole) (arg6 : Memref sig .tc .vmem S1024x512 .f32) (harg6 : arg6.IsWhole) (arg7 : Memref sig .tc .vmem S1024x96 .f32) (harg7 : arg7.IsWhole) (arg8 : Memref sig .tc .vmem S96x256 .f32) (harg8 : arg8.IsWhole)
    (x0 : Vec Ideal S512x12288 .fp8e4m3) (x1 : Vec Ideal S4x96x128 .f32) (x2 : Vec Ideal S12288x1024 .fp8e4m3) (x3 : Vec Ideal S96x1024 .f32) (x5 : Vec Ideal S1024x96 .f32) (f : Buf (Elt Ideal) (arg6.view.loc (c : Thread nD τ))) :
    arg6.view.read (Elt Ideal) (arg6.view.writes (Elt Ideal) f (downRun (F := Ideal) c i arg2 harg2 arg3 harg3 arg4 harg4 arg5 harg5 arg6 harg6 arg7 harg7 arg8 harg8 x0 x1 x2 x3 x5).1) = downY x0 x1 x2 x3 := by
  have hcov : ∀ y : S1024x512.Idx, ∃ p ∈ (downRun (F := Ideal) c i arg2 harg2 arg3 harg3 arg4 harg4 arg5 harg5 arg6 harg6 arg7 harg7 arg8 harg8 x0 x1 x2 x3 x5).1, y ∈ p.1.set := fun y =>
    View.cover_of_tiled (s := S1024x512) (downRun (F := Ideal) c i arg2 harg2 arg3 harg3 arg4 harg4 arg5 harg5 arg6 harg6 arg7 harg7 arg8 harg8 x0 x1 x2 x3 x5).1 S256x128.size (by rfl) y
  rw [View.read_writes_eq_canon _ _ _ hcov]
  funext y
  exact View.canon_apply_of_pieces _ _ (down_stores c i arg2 harg2 arg3 harg3 arg4 harg4 arg5 harg5 arg6 harg6 arg7 harg7 arg8 harg8 x0 x1 x2 x3 x5) y (hcov y)

/-- What the run leaves in the scales' block: the transposed scales at the first column of the grid, and what was there
    at the others. -/
theorem down_s (c : Dev nD) (i : grid0.Coords) (arg2 : Memref sig .tc .vmem S512x12288 .fp8e4m3) (harg2 : arg2.IsWhole) (arg3 : Memref sig .tc .vmem S4x96x128 .f32) (harg3 : arg3.IsWhole) (arg4 : Memref sig .tc .vmem S12288x1024 .fp8e4m3) (harg4 : arg4.IsWhole) (arg5 : Memref sig .tc .vmem S96x1024 .f32) (harg5 : arg5.IsWhole) (arg6 : Memref sig .tc .vmem S1024x512 .f32) (harg6 : arg6.IsWhole) (arg7 : Memref sig .tc .vmem S1024x96 .f32) (harg7 : arg7.IsWhole) (arg8 : Memref sig .tc .vmem S96x256 .f32) (harg8 : arg8.IsWhole)
    (x0 : Vec Ideal S512x12288 .fp8e4m3) (x1 : Vec Ideal S4x96x128 .f32) (x2 : Vec Ideal S12288x1024 .fp8e4m3) (x3 : Vec Ideal S96x1024 .f32) (x5 : Vec Ideal S1024x96 .f32) :
    arg7.view.read (Elt Ideal) (downRun (F := Ideal) c i arg2 harg2 arg3 harg3 arg4 harg4 arg5 harg5 arg6 harg6 arg7 harg7 arg8 harg8 x0 x1 x2 x3 x5).2.1 = if k0_cond1 i = 1#1 then downS x3 else x5 := by
  show arg7.view.read (Elt Ideal) (if hc : k0_cond1 i = 1#1 then _ else _) = _
  by_cases h : k0_cond1 i = 1#1
  · rw [dif_pos h, if_pos h]
    refine (View.read_writes_eq_canon _ _ _ (fun y => View.cover_of_tiled _ S1024x96.size (by rfl) y)).trans ?_
    funext y
    refine View.canon_apply_of_pieces (downS x3) _ ?_ y (View.cover_of_tiled _ S1024x96.size (by rfl) y)
    intro p hp x
    obtain rfl := List.mem_singleton.1 hp
    obtain ⟨j, g, rfl⟩ : ∃ (j : Fin 1024) (g : Fin 96), x = ix2 (n0 := 1024) (n1 := 96) j g :=
      ⟨x 0, x 1, eq_ix2 (n0 := 1024) (n1 := 96) x⟩
    dsimp only [k0_pay1]
    refine (ValueIdx.transpose_ix2_apply _ _ j g).trans ?_
    refine (readAt_ix2 arg5 harg5 x3 _ g j (by omega) (by omega)).trans ?_
    refine congrArg x3 (funext fun a => ?_)
    match a with
    | ⟨0, _⟩ => exact Fin.ext (show 0 + g.val = 0 + 1 * g.val by omega)
    | ⟨1, _⟩ => exact Fin.ext (show 0 + j.val = 0 + 1 * j.val by omega)
  · rw [dif_neg h, if_neg h]
    exact harg7.read_unread _

end Cert.DownIdeal.Gen

end
-- ==== Proof.Down.Body.lean ====
module

public import proofs.«01_k».proof.Proof.Gen.DownIdeal.Frame
public import proofs.«01_k».proof.Proof.Down.Stored
public import Idealize.ShloMosaic.Lib.Pipeline.TableIdle
public import Idealize.ShloMosaic.Lib.Pipeline.ValueKit
public import Idealize.ShloMosaic.Lib.Claim

@[expose] public section

set_option maxRecDepth 16384

noncomputable section

namespace Cert.DownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Common

local notation "𝕄" => MT nD τ sig Unit (Elt Ideal) ℕ (UR sig nD τ) ℕ

variable (m : (ℓ : Loc nD τ sig) → Buf (Elt Ideal) ℓ) (ρ : Dev nD → PrngReg)

/-! ## Where the second result's block is stored -/

/-- The scales are stored at the first point of each row of the grid. -/
theorem first_iff (t : Fin cfg0.N) : k0_cond1 (grid0.coords t) = 1#1 ↔ t.val % 8 = 0 := by
  have ht : t.val < 64 := Nat.lt_of_lt_of_eq t.isLt N_0
  have e0 : (grid0.coords t 0).val = t.val / 8 % 8 := Pipeline.Grid.coords_val t 0 (by decide) rfl
  have e1 : (grid0.coords t 1).val = t.val / 1 % 8 := Pipeline.Grid.coords_val t 1 (by decide) rfl
  simp only [k0_cond1, e0, e1]
  word_cmp

theorem live0_5 (t : Fin cfg0.N) (h : t.val % 8 = 0) : cfg0.idle 5 (grid0.coords t) = false := by
  show (!(k0_cond1 (grid0.coords t) == 1#1)) = false
  rw [(first_iff t).2 h]; rfl

theorem idle0_5 (t : Fin cfg0.N) (h : ¬ t.val % 8 = 0) : cfg0.idle 5 (grid0.coords t) = true := by
  show (!(k0_cond1 (grid0.coords t) == 1#1)) = true
  have := mt (first_iff t).1 h
  simp only [Bool.not_eq_true', beq_eq_false_iff_ne, ne_eq]; exact this

/-- The row of the grid: its first coordinate. -/
theorem index0_3 : ∀ t : Fin cfg0.N, win0_3.index t = ![0, t.val / 8] :=
  (by decide +kernel : ∀ t : Fin grid0.N, win0_3.index t = ![0, t.val / 8])

/-- The tokens' scales the body finds at `t` are those it found at the point before, in one row of the grid. -/
theorem iblk3_pred (c : Dev nD) (t : Fin cfg0.N) (h : ¬ t.val % 8 = 0) :
    iblk m c 3 t = iblk m c 3 ⟨t.val - 1, by omega⟩ := by
  unfold iblk
  have hd : (t.val - 1) / 8 = t.val / 8 := by omega
  funext y
  blk_simp
  refine congrArg _ (funext fun a => Fin.ext ?_)
  blk_simp [index0_3]
  rw [hd]

/-! ## The pipeline's proof data -/

/-- What each window's buffer holds after the body at a point. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => downY (iblk m c 0 t) (iblk m c 1 t) (iblk m c 2 t) (iblk m c 3 t)
    | ⟨5, _⟩ => downS (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = downY (iblk m c 0 t) (iblk m c 1 t) (iblk m c 2 t) (iblk m c 3 t) := by dsimp only [dats]
theorem after0_5 (c : Dev nD) (t : Fin cfg0.N) : (dats m 0 c).after 5 t = downS (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The second result's buffer holds nothing of use exactly at the first point of a row of the grid. -/
theorem fresh0_5 (n : ℕ) (h : n ≤ cfg0.N) : cfg0.fresh 5 n = (n % 8 == 0) := by
  refine cfg0.fresh_tab 5 (fun n => n % 8 == 0) rfl (fun t => ?_) n h
  by_cases h0 : t.val % 8 = 0
  · rw [live0_5 t h0, Bool.false_and, Bool.or_false]
    have h7 : (cfg0.win 5).flush t = false := by
      cases hf : (cfg0.win 5).flush t
      · rfl
      · have := (flush0_5 t).1 hf; omega
    rw [h7]
    simp only [beq_eq_false_iff_ne, ne_eq]; omega
  · have h0' : (t.val % 8 == 0) = false := by simpa using h0
    simp only [h0', Bool.and_false, Bool.or_false]
    rw [Bool.eq_iff_iff, flush0_5 t]
    simp only [beq_iff_eq]; omega

theorem before0_5 (c : Dev nD) (t : Fin cfg0.N) (h : ¬ t.val % 8 = 0) (d) :
    (dats m 0 c).before 5 t d = downS (iblk m c 3 t) := by
  rw [(dats m 0 c).before_out_traj 5 rfl (fun _ _ => rfl) (fun t _ _ hf => ?_) t.val t rfl d, fresh0_5 _ t.isLt.le]
  · have h0' : (t.val % 8 == 0) = false := by simpa using h
    rw [h0', if_neg Bool.false_ne_true, after0_5, iblk3_pred m c t h]
  · rw [fresh0_5 _ t.isLt.le] at hf
    have ht : ¬ t.val % 8 = 0 := by simpa using hf
    rw [after0_5, after0_5, iblk3_pred m c t ht]

/-! ## The body obligation, at a generic point -/

abbrev ms0_0 (t : Fin cfg0.N) : Memref sig .tc .vmem S512x12288 .fp8e4m3 := win0_0.stage (cfg0.slots t 0)
abbrev ms0_1 (t : Fin cfg0.N) : Memref sig .tc .vmem S4x96x128 .f32 := win0_1.stage (cfg0.slots t 1)
abbrev ms0_2 (t : Fin cfg0.N) : Memref sig .tc .vmem S12288x1024 .fp8e4m3 := win0_2.stage (cfg0.slots t 2)
abbrev ms0_3 (t : Fin cfg0.N) : Memref sig .tc .vmem S96x1024 .f32 := win0_3.stage (cfg0.slots t 3)
abbrev ms0_4 (t : Fin cfg0.N) : Memref sig .tc .vmem S1024x512 .f32 := win0_4.stage (cfg0.slots t 4)
abbrev ms0_5 (t : Fin cfg0.N) : Memref sig .tc .vmem S1024x96 .f32 := win0_5.stage (cfg0.slots t 5)
abbrev scM0_0 : Memref sig .tc .vmem S96x256 .f32 := Memref.whole cc0_scratch0

theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ (dats m 0 c).leavesExact 5 t)

/-- The second result's buffer, once it holds the point's scales. -/
theorem leaves0_5 (c : Dev nD) (t : Fin cfg0.N) :
    owns (c : Thread nD τ) (ms0_5 t) fullShare (downS (iblk m c 3 t)) ⊢ ((dats m 0 c).leavesExact 5 t : sProp 𝕄) := by
  by_cases h : t.val % 8 = 0
  · unfold Dat.leavesExact; rw [live0_5 t h, after0_5]
  · cases hf : (cfg0.win 5).flush t
    · rw [(dats m 0 c).leavesExact_idle 5 t (idle0_5 t h) hf]
      simp only [before0_5 m c t h]
      iintro H; iexists (downS (iblk m c 3 t)); iexact H
    · unfold Dat.leavesExact; rw [idle0_5 t h, hf, after0_5]

set_option maxHeartbeats 800000 in
/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩, ⟨%d4, H4⟩, ⟨%d5, H5⟩⟩
  iapply ((downRun c (grid0.coords t) _ _ _ _ _ _ _ _ _ _ _ _ _ _ (iblk m c 0 t) (iblk m c 1 t) (iblk m c 2 t) (iblk m c 3 t)
    ((dats m 0 c).before 5 t d5)).2.2 Set.univ _)
  isplitl [H0]; · iexact H0
  isplitl [H1]; · iexact H1
  isplitl [H2]; · iexact H2
  isplitl [H3]; · iexact H3
  isplitl [H4]; · iexists _; iexact H4
  isplitl [H5]; · iexact H5
  isplitl [HS0]; · iexact HS0
  iintro ⟨H0, H1, H2, H3, ⟨%f4, H4⟩, H5, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]
  · unfold owns
    iexists _; isplitr
    swap; · iexact H4
    ipureintro
    exact down_y c _ _ _ _ _ _ _ _ _ _ _ _ _ _ _ _ _ _ _ _ _
  iapply (leaves0_5 m c t)
  unfold owns
  iexists _; isplitr
  swap; · iexact H5
  ipureintro
  refine (down_s c _ _ _ _ _ _ _ _ _ _ _ _ _ _ _ _ _ _ _ _).trans ?_
  by_cases h : t.val % 8 = 0
  · rw [if_pos ((first_iff t).2 h)]
  · rw [if_neg (fun hc => h ((first_iff t).1 hc)), before0_5 m c t h]

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
theorem run_main_quiescent : θ_run defs (onTc (τ := τ) (main (F := Ideal))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := Ideal))) (s₀ m ρ) (Pipeline.FramePost cfgs (dats m) 0 (V m)) :=
  (θ_run defs _ _).mono (fun _ h => h.1) (run_main_quiescent m ρ)

theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.DownIdeal.Gen

end
-- ==== Proof.Down.Blocks.lean ====
module

public import proofs.«01_k».proof.Proof.Down.Body
public import Idealize.ShloMosaic.Lib.Pointwise

@[expose] public section

set_option maxRecDepth 16384

noncomputable section

namespace Cert.DownIdeal.Gen

open Idealize.ShloMosaic Idealize.ShloMosaic.TcCoe Idealize.SL.Sem Cert.Common

variable (m : (ℓ : Loc nD τ sig) → Buf (Elt Ideal) ℓ)

/-! ## The windows' blocks, entry by entry, in the arguments -/

theorem index0_0 : ∀ t : Fin cfg0.N, win0_0.index t = ![t.val % 8, 0] :=
  (by decide +kernel : ∀ t : Fin grid0.N, win0_0.index t = ![t.val % 8, 0])
theorem index0_1 : ∀ t : Fin cfg0.N, win0_1.index t = ![t.val % 8, 0, 0] :=
  (by decide +kernel : ∀ t : Fin grid0.N, win0_1.index t = ![t.val % 8, 0, 0])
theorem index0_2 : ∀ t : Fin cfg0.N, win0_2.index t = ![0, t.val / 8] :=
  (by decide +kernel : ∀ t : Fin grid0.N, win0_2.index t = ![0, t.val / 8])
theorem index0_4 : ∀ t : Fin cfg0.N, win0_4.index t = ![t.val / 8, t.val % 8] :=
  (by decide +kernel : ∀ t : Fin grid0.N, win0_4.index t = ![t.val / 8, t.val % 8])
theorem index0_5 : ∀ t : Fin cfg0.N, win0_5.index t = ![t.val / 8, 0] :=
  (by decide +kernel : ∀ t : Fin grid0.N, win0_5.index t = ![t.val / 8, 0])

theorem row_lt (t : Fin cfg0.N) : t.val / 8 < 8 := by
  have ht : t.val < 64 := Nat.lt_of_lt_of_eq t.isLt N_0
  omega

/-- The weights' codes: their columns, as rows. -/
theorem iblk0_at (c : Dev nD) (t : Fin cfg0.N) (o : Fin 512) (k : Fin 12288) :
    (iblk m c 0 t : Vec Ideal S512x12288 .fp8e4m3) (ix2 o k)
      = (m ((c : Thread nD τ).loc main_arg0) : Vec Ideal S12288x4096 .fp8e4m3) (ix2 k ⟨t.val % 8 * 512 + o, by omega⟩) := by
  blk_ext! [iblk, V, index0_0]

/-- The weights' scales, the same for every lane. -/
theorem iblk1_at (c : Dev nD) (t : Fin cfg0.N) (p : Fin 4) (g : Fin 96) (l : Fin 128) :
    (iblk m c 1 t : Vec Ideal S4x96x128 .f32) (ix3 p g l)
      = (m ((c : Thread nD τ).loc main_arg1) : Vec Ideal S96x32 .f32) (ix2 g ⟨t.val % 8 * 4 + p, by omega⟩) := by
  blk_ext! [iblk, V, index0_1]

/-- The tokens' codes. -/
theorem iblk2_at (c : Dev nD) (t : Fin cfg0.N) (k : Fin 12288) (j : Fin 1024) :
    (iblk m c 2 t : Vec Ideal S12288x1024 .fp8e4m3) (ix2 k j)
      = (m ((c : Thread nD τ).loc main_arg2) : Vec Ideal S12288x8192 .fp8e4m3)
          (ix2 k ⟨t.val / 8 * 1024 + j, by have := row_lt t; omega⟩) := by
  rw [← V_main_arg2 m c]
  blk_ext [iblk, index0_2]

/-- The tokens' scales. -/
theorem iblk3_at (c : Dev nD) (t : Fin cfg0.N) (g : Fin 96) (j : Fin 1024) :
    (iblk m c 3 t : Vec Ideal S96x1024 .f32) (ix2 g j)
      = (m ((c : Thread nD τ).loc main_arg3) : Vec Ideal S96x8192 .f32)
          (ix2 g ⟨t.val / 8 * 1024 + j, by have := row_lt t; omega⟩) := by
  rw [← V_main_arg3 m c]
  blk_ext [iblk, index0_3]

end Cert.DownIdeal.Gen

end
-- ==== Proof.Down.Ref.lean ====
module

public import proofs.«01_k».proof.Proof.Gen.DownReferenceIdeal.Skeleton
public import proofs.«01_k».proof.Proof.Common.Sums
public import Idealize.ShloMosaic.Lib.Pointwise
public import Idealize.ShloMosaic.Lib.Pipeline.ValueKit

@[expose] public section

set_option maxRecDepth 16384

noncomputable section

namespace Cert.DownReferenceIdeal.Gen

open Idealize.ShloMosaic Cert.Common
open scoped BigOperators

/-- The reference's product at a token and a column. -/
theorem ref_y_at (a : FVec Ideal S12288x8192 .fp8e4m3) (w : FVec Ideal S12288x4096 .fp8e4m3) (ws : FVec Ideal S96x32 .f32)
    (hs : FVec Ideal S96x8192 .f32) (r : Fin 8192) (c : Fin 4096) :
    k0_pay1 (F := Ideal) a w ws hs (ix2 r c) = ∑ g : Fin 96, (∑ k : Fin 128, a (ix2 ⟨g * 128 + k, by omega⟩ r) * w (ix2 ⟨g * 128 + k, by omega⟩ c)) * hs (ix2 g r)
      * ws (ix2 g ⟨c / 128, by omega⟩) := by
  pointwise [k0_pay1]

theorem ref_h_at (hs : FVec Ideal S96x8192 .f32) (r : Fin 8192) (c : Fin 96) :
    k0_pay2 (F := Ideal) hs (ix2 r c) = hs (ix2 c r) := by
  pointwise [k0_pay2]

end Cert.DownReferenceIdeal.Gen

end
-- ==== Proof.Down.Final.lean ====
module

public import proofs.«01_k».proof.Proof.Down.Blocks
public import proofs.«01_k».proof.Proof.Down.Ref
public import proofs.«01_k».proof.Proof.Gen.DownReferenceIdeal.Frame

@[expose] public section

set_option maxRecDepth 16384

noncomputable section

namespace Cert.Common

open Idealize.ShloMosaic Idealize.SL.Sem
open scoped BigOperators

/-! ## The two results, in the arguments -/

/-- The product: for every token and column, the groups' products, each scaled. -/
def yOf (w : Vec Ideal (Sh2 12288 4096) .fp8e4m3) (ws : Vec Ideal (Sh2 96 32) .f32)
    (a : Vec Ideal (Sh2 12288 8192) .fp8e4m3) (hs : Vec Ideal (Sh2 96 8192) .f32) : Vec Ideal (Sh2 8192 4096) .f32 := fun y =>
  ∑ g ∈ Finset.range 96, (∑ k ∈ Finset.range 128, at2 (m := 12288) (n := 4096) w (128 * g + k) (y 1)
    * at2 (m := 12288) (n := 8192) a (128 * g + k) (y 0)) * (at2 (m := 96) (n := 8192) hs g (y 0) * at2 (m := 96) (n := 32) ws g ((y 1).val / 128))

/-- The tokens' scales, one row per token. -/
def sOf (hs : Vec Ideal (Sh2 96 8192) .f32) : Vec Ideal (Sh2 8192 96) .f32 := fun y => hs (ix2 (n0 := 96) (n1 := 8192) (y 1) (y 0))

end Cert.Common

namespace Cert.DownIdeal.Gen

open Idealize.ShloMosaic Idealize.ShloMosaic.TcCoe Idealize.SL.Sem Cert.Common
open scoped BigOperators

variable (m : (ℓ : Loc nD τ sig) → Buf (Elt Ideal) ℓ)

theorem point4 (c : Dev nD) (t : Fin cfg0.N) (y : S1024x512.Idx) :
    downY (iblk m c 0 t) (iblk m c 1 t) (iblk m c 2 t) (iblk m c 3 t) y
      = yOf (m ((c : Thread nD τ).loc main_arg0)) (m ((c : Thread nD τ).loc main_arg1)) (m ((c : Thread nD τ).loc main_arg2))
          (m ((c : Thread nD τ).loc main_arg3)) ((win0_4.blk t).view.emb y) := by
  have hr := row_lt t
  obtain ⟨j, o, rfl⟩ : ∃ (j : Fin 1024) (o : Fin 512), y = ix2 (n0 := 1024) (n1 := 512) j o :=
    ⟨y 0, y 1, eq_ix2 (n0 := 1024) (n1 := 512) y⟩
  have e0 : ((win0_4.blk t).view.emb (ix2 (n0 := 1024) (n1 := 512) j o) 0).val = t.val / 8 * 1024 + j := by blk_simp [index0_4]
  have e1 : ((win0_4.blk t).view.emb (ix2 (n0 := 1024) (n1 := 512) j o) 1).val = t.val % 8 * 512 + o := by blk_simp [index0_4]
  unfold yOf downY
  rw [e0, e1]
  refine Finset.sum_congr rfl fun g hg => ?_
  have hg := Finset.mem_range.1 hg
  have s1 := iblk3_at m c t ⟨g, hg⟩ j
  have s2 := iblk1_at m c t ⟨o / 128, by omega⟩ ⟨g, hg⟩ ⟨j % 128, by omega⟩
  congr 1
  · refine Finset.sum_congr rfl fun k hk => ?_
    have hk := Finset.mem_range.1 hk
    congr 1
    · rw [at2_of_lt (i := (ix2 (n0 := 1024) (n1 := 512) j o 1).val) _ o.2 (show 128 * g + k < 12288 by omega),
        at2_of_lt _ (show 128 * g + k < 12288 by omega) (show t.val % 8 * 512 + o.val < 4096 by omega)]
      exact iblk0_at m c t o ⟨128 * g + k, by omega⟩
    · rw [at2_of_lt (j := (ix2 (n0 := 1024) (n1 := 512) j o 0).val) _ (show 128 * g + k < 12288 by omega) j.2,
        at2_of_lt _ (show 128 * g + k < 12288 by omega) (show t.val / 8 * 1024 + j.val < 8192 by omega)]
      exact iblk2_at m c t ⟨128 * g + k, by omega⟩ j
  · congr 1
    · rw [at2_of_lt (j := (ix2 (n0 := 1024) (n1 := 512) j o 0).val) _ hg j.2,
        at2_of_lt _ hg (show t.val / 8 * 1024 + j.val < 8192 by omega)]
      exact s1
    · have ho : (t.val % 8 * 512 + o.val) / 128 = t.val % 8 * 4 + o.val / 128 := by omega
      rw [ho, at2_of_lt _ hg (show t.val % 8 * 4 + o.val / 128 < 32 by omega)]
      refine Eq.trans ?_ s2
      exact at3_of_lt (l := 4) (m := 96) (n := 128) _ (show o.val / 128 < 4 by omega) hg (show j.val % 128 < 128 by omega)

theorem final4 (c : Dev nD) : (dats m 0 c).arrAt 4 cfg0.N
    = yOf (m ((c : Thread nD τ).loc main_arg0)) (m ((c : Thread nD τ).loc main_arg1)) (m ((c : Thread nD τ).loc main_arg2))
          (m ((c : Thread nD τ).loc main_arg3)) := by
  refine (dats m 0 c).arrAt_eq_of_covers 4 _ (by decide +kernel) fun t hf y => ?_
  blk_simp
  rw [after0_4]
  exact point4 m c t y

theorem final5 (c : Dev nD) : (dats m 0 c).arrAt 5 cfg0.N = sOf (m ((c : Thread nD τ).loc main_arg3)) := by
  refine (dats m 0 c).arrAt_eq_of_covers 5 _ (by decide +kernel) fun t hf y => ?_
  blk_simp
  rw [after0_5]
  have hr := row_lt t
  refine (iblk3_at m c t (y 1) (y 0)).trans ?_
  unfold sOf
  refine congrArg _ (funext fun a => Fin.ext ?_)
  match a with
  | ⟨0, _⟩ => exact (show (y 1).val = _ by blk_simp [index0_5])
  | ⟨1, _⟩ => exact (show t.val / 8 * 1024 + (y 0).val = _ by blk_simp [index0_5])

end Cert.DownIdeal.Gen

namespace Cert.DownReferenceIdeal.Gen

open Idealize.ShloMosaic Idealize.ShloMosaic.TcCoe Idealize.SL.Sem Cert.Common
open scoped BigOperators

variable (m : (ℓ : Loc nD τ sig) → Buf (Elt Ideal) ℓ)

theorem pay1_eq (a : FVec Ideal S12288x8192 .fp8e4m3) (w : FVec Ideal S12288x4096 .fp8e4m3) (ws : FVec Ideal S96x32 .f32)
    (hs : FVec Ideal S96x8192 .f32) : k0_pay1 (F := Ideal) a w ws hs = yOf w ws a hs := by
  funext y
  obtain ⟨r, o, rfl⟩ : ∃ (r : Fin 8192) (o : Fin 4096), y = ix2 (n0 := 8192) (n1 := 4096) r o :=
    ⟨y 0, y 1, eq_ix2 (n0 := 8192) (n1 := 4096) y⟩
  rw [ref_y_at]
  unfold yOf
  rw [Finset.sum_range]
  refine Finset.sum_congr rfl fun g _ => ?_
  rw [Finset.sum_range, mul_assoc]
  congr 1
  · refine Finset.sum_congr rfl fun k _ => ?_
    rw [at2_of_lt (j := (ix2 (n0 := 8192) (n1 := 4096) r o 1).val) _ (show 128 * g.val + k.val < 12288 by omega) o.2,
      at2_of_lt (j := (ix2 (n0 := 8192) (n1 := 4096) r o 0).val) _ (show 128 * g.val + k.val < 12288 by omega) r.2, mul_comm]
    have hk : (⟨g.val * 128 + k.val, by omega⟩ : Fin 12288) = ⟨128 * g.val + k.val, by omega⟩ := Fin.ext (by simp only; omega)
    rw [hk]
    rfl
  · rw [at2_of_lt (j := (ix2 (n0 := 8192) (n1 := 4096) r o 0).val) _ g.2 r.2,
      at2_of_lt (j := (ix2 (n0 := 8192) (n1 := 4096) r o 1).val / 128) _ g.2 (show o.val / 128 < 32 by omega)]
    rfl

theorem pay2_eq (hs : FVec Ideal S96x8192 .f32) : k0_pay2 (F := Ideal) hs = sOf hs := by
  funext y
  obtain ⟨r, o, rfl⟩ : ∃ (r : Fin 8192) (o : Fin 96), y = ix2 (n0 := 8192) (n1 := 96) r o :=
    ⟨y 0, y 1, eq_ix2 (n0 := 8192) (n1 := 96) y⟩
  exact ref_h_at hs r o

/-- A window of the reference is its whole array. -/
theorem idx0 : (∀ t : Fin cfg0.N, win0_0.index t = ![0, 0]) ∧ (∀ t : Fin cfg0.N, win0_1.index t = ![0, 0])
    ∧ (∀ t : Fin cfg0.N, win0_2.index t = ![0, 0]) ∧ (∀ t : Fin cfg0.N, win0_3.index t = ![0, 0])
    ∧ (∀ t : Fin cfg0.N, win0_4.index t = ![0, 0]) ∧ (∀ t : Fin cfg0.N, win0_5.index t = ![0, 0]) :=
  ⟨(by decide +kernel : ∀ t : Fin grid0.N, win0_0.index t = ![0, 0]),
    (by decide +kernel : ∀ t : Fin grid0.N, win0_1.index t = ![0, 0]),
    (by decide +kernel : ∀ t : Fin grid0.N, win0_2.index t = ![0, 0]),
    (by decide +kernel : ∀ t : Fin grid0.N, win0_3.index t = ![0, 0]),
    (by decide +kernel : ∀ t : Fin grid0.N, win0_4.index t = ![0, 0]),
    (by decide +kernel : ∀ t : Fin grid0.N, win0_5.index t = ![0, 0])⟩

theorem final4 (c : Dev nD) : (dats (F := Ideal) m 0 c).arrAt 4 cfg0.N
    = yOf (m ((c : Thread nD τ).loc main_arg0)) (m ((c : Thread nD τ).loc main_arg1)) (m ((c : Thread nD τ).loc main_arg2))
          (m ((c : Thread nD τ).loc main_arg3)) := by
  refine (dats m 0 c).arrAt_eq_of_covers 4 _ (by decide +kernel) fun t hf y => ?_
  blk_simp
  rw [after0_4]; frame_out
  obtain ⟨h0, h1, h2, h3, h4, h5⟩ := idx0
  rw [show iblk m c 0 t = m ((c : Thread nD τ).loc main_arg0) by blk_ext! [iblk, V, h0],
    show iblk m c 1 t = m ((c : Thread nD τ).loc main_arg1) by blk_ext! [iblk, V, h1],
    show iblk m c 2 t = m ((c : Thread nD τ).loc main_arg2) by blk_ext! [iblk, V, h2],
    show iblk m c 3 t = m ((c : Thread nD τ).loc main_arg3) by blk_ext! [iblk, V, h3], pay1_eq]
  refine congrArg _ ?_
  blk_ext [h4]

theorem final5 (c : Dev nD) : (dats (F := Ideal) m 0 c).arrAt 5 cfg0.N = sOf (m ((c : Thread nD τ).loc main_arg3)) := by
  refine (dats m 0 c).arrAt_eq_of_covers 5 _ (by decide +kernel) fun t hf y => ?_
  blk_simp
  rw [after0_5]; frame_out
  obtain ⟨h0, h1, h2, h3, h4, h5⟩ := idx0
  rw [show iblk m c 3 t = m ((c : Thread nD τ).loc main_arg3) by blk_ext! [iblk, V, h3], pay2_eq]
  refine congrArg _ ?_
  blk_ext [h5]

end Cert.DownReferenceIdeal.Gen

end
-- ==== Proof.QuantX.Value.lean ====
module

public import proofs.«01_k».proof.Proof.Gen.QuantX.Frame
public import proofs.«01_k».proof.Proof.Gen.QuantXReference.Frame
public import Idealize.ShloMosaic.PureOps.BitExact.Laws
public import Idealize.ShloMosaic.Lib.Pointwise
public import Idealize.ShloMosaic.Lib.Pipeline.ValueKit

@[expose] public section

set_option maxRecDepth 16384

noncomputable section

namespace Cert.QuantX.Gen

open Idealize.ShloMosaic
open scoped BigOperators

/-- The kernel's largest magnitude of a group, over its rows. -/
theorem amax_at (x : Vec Bits S256x4096 .f32) (g : Fin 32) (j : Fin 256) :
    k0_pay6 (F := Bits) x (ix2 g j) = Finset.fold (FloatOps.maximumf (F := Bits) (φ := .f32)) (FloatOps.ofBits (F := Bits) .f32 0xFF800000#32)
      (fun k : Fin 128 => FloatOps.absf (F := Bits) (φ := .f32) (x (ix2 j ⟨g * 128 + k, by omega⟩))) Finset.univ := by
  pointwise [k0_pay6, k0_pay5]

end Cert.QuantX.Gen

namespace Cert.QuantXReference.Gen

open Idealize.ShloMosaic
open scoped BigOperators

theorem amax_at (x : Vec Bits S8192x4096 .f32) (g : Fin 32) (r : Fin 8192) :
    k0_pay5 (F := Bits) x (ix2 r g) = Finset.fold (FloatOps.maximumf (F := Bits) (φ := .f32)) (FloatOps.ofBits (F := Bits) .f32 0xFF800000#32)
      (fun k : Fin 128 => FloatOps.absf (F := Bits) (φ := .f32) (x (ix2 r ⟨g * 128 + k, by omega⟩))) Finset.univ := by
  pointwise [k0_pay5, k0_pay4]

end Cert.QuantXReference.Gen

namespace Cert.QuantX.Gen

open Idealize.ShloMosaic
open Cert.QuantXReference (S8192x4096 S8192x32)

/-- A scale at a group and a row is the reference's where the two largest magnitudes are the same. -/
theorem scale_at (x : Vec Bits S256x4096 .f32) (X : Vec Bits S8192x4096 .f32) (g : Fin 32) (j : Fin 256) (r : Fin 8192)
    (h : k0_pay6 (F := Bits) x (ix2 g j) = Cert.QuantXReference.Gen.k0_pay5 (F := Bits) X (ix2 r g)) :
    k0_pay16 (F := Bits) (k0_pay10 (F := Bits)) (k0_pay11 (F := Bits)) (k0_pay13 (F := Bits)) (k0_pay14 (F := Bits))
        (k0_pay15 (k0_pay6 (F := Bits) x) (k0_pay7 (F := Bits) x) (k0_pay8 (F := Bits))) (ix2 g j)
      = Cert.QuantXReference.Gen.k0_pay1 (F := Bits) (Cert.QuantXReference.Gen.k0_pay18 (F := Bits)) (Cert.QuantXReference.Gen.k0_pay19 (F := Bits))
          (Cert.QuantXReference.Gen.k0_pay21 (F := Bits)) (Cert.QuantXReference.Gen.k0_pay22 (F := Bits)) (Cert.QuantXReference.Gen.k0_pay23 (F := Bits))
          (Cert.QuantXReference.Gen.k0_pay24 (F := Bits) (Cert.QuantXReference.Gen.k0_pay8 (Cert.QuantXReference.Gen.k0_pay6 (F := Bits) X) (Cert.QuantXReference.Gen.k0_pay7 (F := Bits) X) 0#32))
          (Cert.QuantXReference.Gen.k0_pay25 (F := Bits)) Cert.QuantXReference.Gen.k0_pay26 (ix2 r g) := by
  unfold k0_pay7 Cert.QuantXReference.Gen.k0_pay6 Cert.QuantXReference.Gen.k0_pay7
  generalize k0_pay6 (F := Bits) x = A at h ⊢
  generalize Cert.QuantXReference.Gen.k0_pay5 (F := Bits) X = B at h ⊢
  pointwise [k0_pay8, k0_pay9, k0_pay10, k0_pay11, k0_pay12, k0_pay13, k0_pay14, k0_pay15, k0_pay16, Cert.QuantXReference.Gen.k0_pay1, Cert.QuantXReference.Gen.k0_pay8, Cert.QuantXReference.Gen.k0_pay18, Cert.QuantXReference.Gen.k0_pay19, Cert.QuantXReference.Gen.k0_pay20, Cert.QuantXReference.Gen.k0_pay21, Cert.QuantXReference.Gen.k0_pay22, Cert.QuantXReference.Gen.k0_pay23, Cert.QuantXReference.Gen.k0_pay24, Cert.QuantXReference.Gen.k0_pay25, Cert.QuantXReference.Gen.k0_pay26, h]

/-- A code at a column and a row is the reference's where the values of the row's group are the same. -/
theorem code_at (x : Vec Bits S256x4096 .f32) (X : Vec Bits S8192x4096 .f32) (d : Fin 4096) (j : Fin 256) (r : Fin 8192)
    (h : k0_pay6 (F := Bits) x (ix2 ⟨d / 128, by omega⟩ j) = Cert.QuantXReference.Gen.k0_pay5 (F := Bits) X (ix2 r ⟨d / 128, by omega⟩))
    (hx : x (ix2 j d) = X (ix2 r d)) :
    k0_pay2 (F := Bits) (k0_pay5 (F := Bits) x) (k0_pay17 (F := Bits)) (k0_pay18 (F := Bits)) (k0_pay20 (F := Bits)) (k0_pay21 (F := Bits)) (k0_pay23 (F := Bits))
        (k0_pay24 (F := Bits) (k0_pay9 (k0_pay6 (F := Bits) x) (k0_pay7 (F := Bits) x) (k0_pay8 (F := Bits))))
        (k0_pay25 (F := Bits) (k0_pay9 (k0_pay6 (F := Bits) x) (k0_pay7 (F := Bits) x) (k0_pay8 (F := Bits))))
        (k0_pay26 (F := Bits) (k0_pay9 (k0_pay6 (F := Bits) x) (k0_pay7 (F := Bits) x) (k0_pay8 (F := Bits)))) (ix2 d j)
      = Cert.QuantXReference.Gen.k0_pay17 (F := Bits) (Cert.QuantXReference.Gen.k0_pay4 (F := Bits) X) (Cert.QuantXReference.Gen.k0_pay9 (F := Bits))
          (Cert.QuantXReference.Gen.k0_pay10 (F := Bits)) (Cert.QuantXReference.Gen.k0_pay12 (F := Bits)) (Cert.QuantXReference.Gen.k0_pay13 (F := Bits))
          (Cert.QuantXReference.Gen.k0_pay15 (F := Bits) (Cert.QuantXReference.Gen.k0_pay6 (F := Bits) X) (Cert.QuantXReference.Gen.k0_pay7 (F := Bits) X) 0#32)
          (Cert.QuantXReference.Gen.k0_pay16 (F := Bits) (Cert.QuantXReference.Gen.k0_pay6 (F := Bits) X) (Cert.QuantXReference.Gen.k0_pay7 (F := Bits) X) 0#32) (ix2 r d) := by
  unfold k0_pay7 Cert.QuantXReference.Gen.k0_pay6 Cert.QuantXReference.Gen.k0_pay7
  generalize k0_pay6 (F := Bits) x = A at h ⊢
  generalize Cert.QuantXReference.Gen.k0_pay5 (F := Bits) X = B at h ⊢
  pointwise [k0_pay1, k0_pay2, k0_pay5, k0_pay8, k0_pay9, k0_pay17, k0_pay18, k0_pay19, k0_pay20, k0_pay21, k0_pay22, k0_pay23, k0_pay24, k0_pay25, k0_pay26, Cert.QuantXReference.Gen.k0_pay4, Cert.QuantXReference.Gen.k0_pay8, Cert.QuantXReference.Gen.k0_pay9, Cert.QuantXReference.Gen.k0_pay10, Cert.QuantXReference.Gen.k0_pay11, Cert.QuantXReference.Gen.k0_pay12, Cert.QuantXReference.Gen.k0_pay13, Cert.QuantXReference.Gen.k0_pay14, Cert.QuantXReference.Gen.k0_pay15, Cert.QuantXReference.Gen.k0_pay16, Cert.QuantXReference.Gen.k0_pay17, h, hx]

/-- The codes written row by row are the codes written column by column. -/
theorem code_row (v3 : FVec Bits S32x128x256 .f32) (v100 v102 : IVec S32x256 32) (v110 v112 : IVec S32x256 1) (v119 v123 : IVec S32x256 32)
    (v125 v127 : IVec S32x256 1) (j : Fin 256) (d : Fin 4096) :
    k0_pay3 (F := Bits) v3 v100 v102 v110 v112 v119 v123 v125 v127 (ix2 j d)
      = k0_pay2 (F := Bits) v3 v100 v102 v110 v112 v119 v123 v125 v127 (ix2 d j) := by
  unfold k0_pay2 k0_pay3
  generalize k0_pay1 (F := Bits) v3 v100 v102 v110 v112 v119 v123 v125 v127 = Q
  pointwise []

end Cert.QuantX.Gen

end
-- ==== Proof.QuantX.Final.lean ====
module

public import proofs.«01_k».proof.Proof.QuantX.Value

@[expose] public section

set_option maxRecDepth 16384

noncomputable section

namespace Cert.QuantX.Gen

open Idealize.ShloMosaic Idealize.ShloMosaic.TcCoe Idealize.SL.Sem

variable (m : (ℓ : Loc nD τ sig) → Buf (Elt Bits) ℓ)

theorem index0_0 : ∀ t : Fin cfg0.N, win0_0.index t = ![t.val, 0] :=
  (by decide +kernel : ∀ t : Fin grid0.N, win0_0.index t = ![t.val, 0])
theorem index0_1 : ∀ t : Fin cfg0.N, win0_1.index t = ![t.val, 0] :=
  (by decide +kernel : ∀ t : Fin grid0.N, win0_1.index t = ![t.val, 0])
theorem index0_2 : ∀ t : Fin cfg0.N, win0_2.index t = ![t.val, 0] :=
  (by decide +kernel : ∀ t : Fin grid0.N, win0_2.index t = ![t.val, 0])
theorem index0_3 : ∀ t : Fin cfg0.N, win0_3.index t = ![0, t.val] :=
  (by decide +kernel : ∀ t : Fin grid0.N, win0_3.index t = ![0, t.val])
theorem index0_4 : ∀ t : Fin cfg0.N, win0_4.index t = ![0, t.val] :=
  (by decide +kernel : ∀ t : Fin grid0.N, win0_4.index t = ![0, t.val])

theorem row_lt (t : Fin cfg0.N) : t.val < 32 := Nat.lt_of_lt_of_eq t.isLt N_0

/-- The activations, one row per token. -/
def rows (c : Dev nD) : Vec Bits (⟨2, ![8192, 4096]⟩ : Shape) .f32 := V m c (Pipeline.arrRef spec0 0)

theorem iblk0_at (c : Dev nD) (t : Fin cfg0.N) (j : Fin 256) (d : Fin 4096) :
    (iblk m c 0 t : Vec Bits S256x4096 .f32) (ix2 j d)
      = rows m c (ix2 ⟨t.val * 256 + j, by have := row_lt t; omega⟩ d) := by
  unfold rows
  blk_ext [iblk, index0_0]

theorem amax_iblk (c : Dev nD) (t : Fin cfg0.N) (j : Fin 256) (g : Fin 32) :
    k0_pay6 (F := Bits) (iblk m c 0 t) (ix2 g j)
      = Cert.QuantXReference.Gen.k0_pay5 (F := Bits) (rows m c) (ix2 ⟨t.val * 256 + j, by have := row_lt t; omega⟩ g) := by
  rw [amax_at, Cert.QuantXReference.Gen.amax_at]
  simp only [iblk0_at]

theorem ld_whole (x : Vec Bits S256x4096 .f32) : View.ld x r0_0 = x :=
  View.ld_unit_lit _ x (by decide)

theorem ref_ld_whole (x : Vec Bits (⟨2, ![8192, 4096]⟩ : Shape) .f32) : View.ld x Cert.QuantXReference.Gen.r0_0 = x :=
  View.ld_unit_lit _ x (by decide)

/-- A scale at a point of the grid. -/
theorem scale_pt (c : Dev nD) (t : Fin cfg0.N) (g : Fin 32) (j : Fin 256) :
    k0_pay32 (F := Bits) (iblk m c 0 t) (ix2 g j)
      = Cert.QuantXReference.Gen.k0_pay1 (F := Bits) (Cert.QuantXReference.Gen.k0_pay30 (F := Bits) (rows m c)) (Cert.QuantXReference.Gen.k0_pay31 (F := Bits) (rows m c)) (Cert.QuantXReference.Gen.k0_pay32 (F := Bits) (rows m c)) (Cert.QuantXReference.Gen.k0_pay33 (F := Bits) (rows m c)) (Cert.QuantXReference.Gen.k0_pay34 (F := Bits) (rows m c)) (Cert.QuantXReference.Gen.k0_pay35 (F := Bits) (rows m c)) (Cert.QuantXReference.Gen.k0_pay36 (F := Bits) (rows m c)) (Cert.QuantXReference.Gen.k0_pay37 (F := Bits) (rows m c)) (ix2 ⟨t.val * 256 + j, by have := row_lt t; omega⟩ g) := by
  have h := scale_at (iblk m c 0 t) (rows m c) g j _ (amax_iblk m c t j g)
  simpa only [k0_pay32, k0_pay28, k0_pay29, k0_pay30, Cert.QuantXReference.Gen.k0_pay27, Cert.QuantXReference.Gen.k0_pay28, Cert.QuantXReference.Gen.k0_pay30, Cert.QuantXReference.Gen.k0_pay31, Cert.QuantXReference.Gen.k0_pay32, Cert.QuantXReference.Gen.k0_pay33, Cert.QuantXReference.Gen.k0_pay34, Cert.QuantXReference.Gen.k0_pay35, Cert.QuantXReference.Gen.k0_pay36, Cert.QuantXReference.Gen.k0_pay37, ld_whole, ref_ld_whole] using h

/-- A code at a point of the grid. -/
theorem code_pt (c : Dev nD) (t : Fin cfg0.N) (d : Fin 4096) (j : Fin 256) :
    k0_pay2 (F := Bits) (k0_pay27 (F := Bits) (iblk m c 0 t)) (k0_pay33 (F := Bits) (iblk m c 0 t)) (k0_pay34 (F := Bits) (iblk m c 0 t)) (k0_pay35 (F := Bits) (iblk m c 0 t)) (k0_pay36 (F := Bits) (iblk m c 0 t)) (k0_pay37 (F := Bits) (iblk m c 0 t)) (k0_pay38 (F := Bits) (iblk m c 0 t)) (k0_pay39 (F := Bits) (iblk m c 0 t)) (k0_pay40 (F := Bits) (iblk m c 0 t)) (ix2 d j)
      = Cert.QuantXReference.Gen.k0_pay29 (F := Bits) (rows m c) (ix2 ⟨t.val * 256 + j, by have := row_lt t; omega⟩ d) := by
  have h := code_at (iblk m c 0 t) (rows m c) d j _ (amax_iblk m c t j ⟨d / 128, by omega⟩) (iblk0_at m c t j d)
  simpa only [k0_pay27, k0_pay28, k0_pay29, k0_pay30, k0_pay31, k0_pay33, k0_pay34, k0_pay35, k0_pay36, k0_pay37, k0_pay38,
    k0_pay39, k0_pay40, Cert.QuantXReference.Gen.k0_pay27, Cert.QuantXReference.Gen.k0_pay28, Cert.QuantXReference.Gen.k0_pay29, ld_whole, ref_ld_whole] using h

theorem final1 (c : Dev nD) : (dats m 0 c).arrAt 1 cfg0.N = Cert.QuantXReference.Gen.out0_1 (F := Bits) (rows m c) := by
  refine (dats m 0 c).arrAt_eq_of_covers 1 _ (by decide +kernel) fun t hf y => ?_
  blk_simp
  rw [after0_1]; frame_out
  obtain ⟨j, d, rfl⟩ : ∃ (j : Fin 256) (d : Fin 4096), y = ix2 (n0 := 256) (n1 := 4096) j d :=
    ⟨y 0, y 1, eq_ix2 (n0 := 256) (n1 := 4096) y⟩
  have hr := row_lt t
  have e : (((View.whole main_v1_0).slice (win0_1.rect t)).emb (ix2 (n0 := 256) (n1 := 4096) j d))
      = ix2 (n0 := 8192) (n1 := 4096) ⟨t.val * 256 + j, by omega⟩ d := by
    blk_ext [index0_1]
  rw [e]
  exact (code_row _ _ _ _ _ _ _ _ _ j d).trans (code_pt m c t d j)

theorem final2 (c : Dev nD) : (dats m 0 c).arrAt 2 cfg0.N = Cert.QuantXReference.Gen.out0_2 (F := Bits) (rows m c) := by
  refine (dats m 0 c).arrAt_eq_of_covers 2 _ (by decide +kernel) fun t hf y => ?_
  blk_simp
  rw [after0_2]; frame_out
  obtain ⟨j, g, rfl⟩ : ∃ (j : Fin 256) (g : Fin 32), y = ix2 (n0 := 256) (n1 := 32) j g :=
    ⟨y 0, y 1, eq_ix2 (n0 := 256) (n1 := 32) y⟩
  have hr := row_lt t
  have e : (((View.whole main_v1_1).slice (win0_2.rect t)).emb (ix2 (n0 := 256) (n1 := 32) j g))
      = ix2 (n0 := 8192) (n1 := 32) ⟨t.val * 256 + j, by omega⟩ g := by
    blk_ext [index0_2]
  rw [e, ← scale_pt]
  pointwise [k0_pay4]

theorem final3 (c : Dev nD) : (dats m 0 c).arrAt 3 cfg0.N = Cert.QuantXReference.Gen.out0_3 (F := Bits) (rows m c) := by
  refine (dats m 0 c).arrAt_eq_of_covers 3 _ (by decide +kernel) fun t hf y => ?_
  blk_simp
  rw [after0_3]; frame_out
  obtain ⟨d, j, rfl⟩ : ∃ (d : Fin 4096) (j : Fin 256), y = ix2 (n0 := 4096) (n1 := 256) d j :=
    ⟨y 0, y 1, eq_ix2 (n0 := 4096) (n1 := 256) y⟩
  have hr := row_lt t
  have e : (((View.whole main_v1_2).slice (win0_3.rect t)).emb (ix2 (n0 := 4096) (n1 := 256) d j))
      = ix2 (n0 := 4096) (n1 := 8192) d ⟨t.val * 256 + j, by omega⟩ := by
    blk_ext [index0_3]
  rw [e]
  refine (code_pt m c t d j).trans ?_
  generalize Cert.QuantXReference.Gen.k0_pay29 (F := Bits) (rows m c) = Q
  pointwise [Cert.QuantXReference.Gen.k0_pay2]

theorem final4 (c : Dev nD) : (dats m 0 c).arrAt 4 cfg0.N = Cert.QuantXReference.Gen.out0_4 (F := Bits) (rows m c) := by
  refine (dats m 0 c).arrAt_eq_of_covers 4 _ (by decide +kernel) fun t hf y => ?_
  blk_simp
  rw [after0_4]; frame_out
  obtain ⟨g, j, rfl⟩ : ∃ (g : Fin 32) (j : Fin 256), y = ix2 (n0 := 32) (n1 := 256) g j :=
    ⟨y 0, y 1, eq_ix2 (n0 := 32) (n1 := 256) y⟩
  have hr := row_lt t
  have e : (((View.whole main_v1_3).slice (win0_4.rect t)).emb (ix2 (n0 := 32) (n1 := 256) g j))
      = ix2 (n0 := 32) (n1 := 8192) g ⟨t.val * 256 + j, by omega⟩ := by
    blk_ext [index0_4]
  rw [e, scale_pt]
  unfold Cert.QuantXReference.Gen.k0_pay3
  generalize Cert.QuantXReference.Gen.k0_pay1 (F := Bits) (Cert.QuantXReference.Gen.k0_pay30 (F := Bits) (rows m c)) (Cert.QuantXReference.Gen.k0_pay31 (F := Bits) (rows m c)) (Cert.QuantXReference.Gen.k0_pay32 (F := Bits) (rows m c)) (Cert.QuantXReference.Gen.k0_pay33 (F := Bits) (rows m c)) (Cert.QuantXReference.Gen.k0_pay34 (F := Bits) (rows m c)) (Cert.QuantXReference.Gen.k0_pay35 (F := Bits) (rows m c)) (Cert.QuantXReference.Gen.k0_pay36 (F := Bits) (rows m c)) (Cert.QuantXReference.Gen.k0_pay37 (F := Bits) (rows m c)) = Q
  pointwise []

theorem rows_eq (c : Dev nD) : rows m c = shapeCast S8192x4096 (m ((c : Thread nD τ).loc main_arg0) : Vec Bits S2x4096x4096 .f32)
    shapeCasts_S2x4096x4096_S8192x4096 := by
  unfold rows
  blk_ext! [V]

end Cert.QuantX.Gen

namespace Cert.QuantXReference.Gen

open Idealize.ShloMosaic Idealize.ShloMosaic.TcCoe Idealize.SL.Sem

variable (m : (ℓ : Loc nD τ sig) → Buf (Elt Bits) ℓ)

theorem idx0 : (∀ t : Fin cfg0.N, win0_0.index t = ![0, 0]) ∧ (∀ t : Fin cfg0.N, win0_1.index t = ![0, 0])
    ∧ (∀ t : Fin cfg0.N, win0_2.index t = ![0, 0]) ∧ (∀ t : Fin cfg0.N, win0_3.index t = ![0, 0])
    ∧ (∀ t : Fin cfg0.N, win0_4.index t = ![0, 0]) :=
  ⟨(by decide +kernel : ∀ t : Fin grid0.N, win0_0.index t = ![0, 0]),
    (by decide +kernel : ∀ t : Fin grid0.N, win0_1.index t = ![0, 0]),
    (by decide +kernel : ∀ t : Fin grid0.N, win0_2.index t = ![0, 0]),
    (by decide +kernel : ∀ t : Fin grid0.N, win0_3.index t = ![0, 0]),
    (by decide +kernel : ∀ t : Fin grid0.N, win0_4.index t = ![0, 0])⟩

/-- The reference's rows: the argument, one row per token. -/
theorem iblk0_eq (c : Dev nD) (t : Fin cfg0.N) : iblk m c 0 t
    = (shapeCast S8192x4096 (m ((c : Thread nD τ).loc main_arg0) : Vec Bits S2x4096x4096 .f32) shapeCasts_S2x4096x4096_S8192x4096) := by
  obtain ⟨h0, h1, h2, h3, h4⟩ := idx0
  blk_ext! [iblk, V, h0]

theorem final1 (c : Dev nD) : (dats (F := Bits) m 0 c).arrAt 1 cfg0.N = out0_1 (F := Bits)
    (shapeCast S8192x4096 (m ((c : Thread nD τ).loc main_arg0) : Vec Bits S2x4096x4096 .f32) shapeCasts_S2x4096x4096_S8192x4096) := by
  refine (dats m 0 c).arrAt_eq_of_covers 1 _ (by decide +kernel) fun t hf y => ?_
  blk_simp
  obtain ⟨h0, h1, h2, h3, h4⟩ := idx0
  rw [after0_1, iblk0_eq]
  refine congrArg _ ?_
  blk_ext [h1]

theorem final2 (c : Dev nD) : (dats (F := Bits) m 0 c).arrAt 2 cfg0.N = out0_2 (F := Bits)
    (shapeCast S8192x4096 (m ((c : Thread nD τ).loc main_arg0) : Vec Bits S2x4096x4096 .f32) shapeCasts_S2x4096x4096_S8192x4096) := by
  refine (dats m 0 c).arrAt_eq_of_covers 2 _ (by decide +kernel) fun t hf y => ?_
  blk_simp
  obtain ⟨h0, h1, h2, h3, h4⟩ := idx0
  rw [after0_2, iblk0_eq]
  refine congrArg _ ?_
  blk_ext [h2]

theorem final3 (c : Dev nD) : (dats (F := Bits) m 0 c).arrAt 3 cfg0.N = out0_3 (F := Bits)
    (shapeCast S8192x4096 (m ((c : Thread nD τ).loc main_arg0) : Vec Bits S2x4096x4096 .f32) shapeCasts_S2x4096x4096_S8192x4096) := by
  refine (dats m 0 c).arrAt_eq_of_covers 3 _ (by decide +kernel) fun t hf y => ?_
  blk_simp
  obtain ⟨h0, h1, h2, h3, h4⟩ := idx0
  rw [after0_3, iblk0_eq]
  refine congrArg _ ?_
  blk_ext [h3]

theorem final4 (c : Dev nD) : (dats (F := Bits) m 0 c).arrAt 4 cfg0.N = out0_4 (F := Bits)
    (shapeCast S8192x4096 (m ((c : Thread nD τ).loc main_arg0) : Vec Bits S2x4096x4096 .f32) shapeCasts_S2x4096x4096_S8192x4096) := by
  refine (dats m 0 c).arrAt_eq_of_covers 4 _ (by decide +kernel) fun t hf y => ?_
  blk_simp
  obtain ⟨h0, h1, h2, h3, h4⟩ := idx0
  rw [after0_4, iblk0_eq]
  refine congrArg _ ?_
  blk_ext [h4]

end Cert.QuantXReference.Gen

end
-- ==== Proof.Down.Words.lean ====
module

public import proofs.«01_k».proof.Proof.Gen.DownIdeal.Frame
public import proofs.«01_k».proof.Proof.Gen.Down
public import proofs.«01_k».proof.Proof.Down.Run
public import proofs.«01_k».proof.Defs
public import Idealize.ShloMosaic.Lib.Claim

@[expose] public section

set_option maxRecDepth 16384

noncomputable section

namespace Cert.DownIdeal.Words

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.DownIdeal.Gen hiding frame_of

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The frame over every reading of the floats -/

theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 2 rfl).trans ((hA c 2).trans (V_main_arg2 m c)),
      (Pipeline.RDat.FramePost.arr_in h c 3 rfl).trans ((hA c 3).trans (V_main_arg3 m c))⟩) h

abbrev ms0_0 (t : Fin cfg0.N) : Memref sig .tc .vmem S512x12288 .fp8e4m3 := win0_0.stage (cfg0.slots t 0)
abbrev ms0_1 (t : Fin cfg0.N) : Memref sig .tc .vmem S4x96x128 .f32 := win0_1.stage (cfg0.slots t 1)
abbrev ms0_2 (t : Fin cfg0.N) : Memref sig .tc .vmem S12288x1024 .fp8e4m3 := win0_2.stage (cfg0.slots t 2)
abbrev ms0_3 (t : Fin cfg0.N) : Memref sig .tc .vmem S96x1024 .f32 := win0_3.stage (cfg0.slots t 3)
abbrev ms0_4 (t : Fin cfg0.N) : Memref sig .tc .vmem S1024x512 .f32 := win0_4.stage (cfg0.slots t 4)
abbrev ms0_5 (t : Fin cfg0.N) : Memref sig .tc .vmem S1024x96 .f32 := win0_5.stage (cfg0.slots t 5)
abbrev scM0_0 : Memref sig .tc .vmem S96x256 .f32 := Memref.whole cc0_scratch0

theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- Of the two results nothing is said here: the frame holds over every reading of the floats. -/
def forgets0 : Fin 6 → Bool := fun w => w.val == 4 || w.val == 5

/-- What each window's buffer holds after the body at a point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

/-- An input's buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d)
    ∗ (∃ d, owns (c : Thread nD τ) (ms0_5 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (∃ d, owns (c : Thread nD τ) (ms0_4 t) fullShare d)
    ∗ (∃ d, owns (c : Thread nD τ) (ms0_5 t) fullShare d))

set_option maxHeartbeats 800000 in
/-- The body at any point: the blocks it reads end as they were. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  rw [show (dats m 0 c).leavesExact 0 t = owns (c : Thread nD τ) (ms0_0 t) fullShare (iblk m c 0 t) from rfl,
    show (dats m 0 c).leavesExact 1 t = owns (c : Thread nD τ) (ms0_1 t) fullShare (iblk m c 1 t) from rfl,
    show (dats m 0 c).leavesExact 2 t = owns (c : Thread nD τ) (ms0_2 t) fullShare (iblk m c 2 t) from rfl,
    show (dats m 0 c).leavesExact 3 t = owns (c : Thread nD τ) (ms0_3 t) fullShare (iblk m c 3 t) from rfl]
  iintro ⟨⟨HS0, Hg⟩, Ho, ⟨%d0, H0⟩, ⟨%d1, H1⟩, ⟨%d2, H2⟩, ⟨%d3, H3⟩, ⟨%d4, H4⟩, ⟨%d5, H5⟩⟩
  iapply ((downRun c (grid0.coords t) _ _ _ _ _ _ _ _ _ _ _ _ _ _ (iblk m c 0 t) (iblk m c 1 t) (iblk m c 2 t) (iblk m c 3 t) d5).2.2 Set.univ _)
  isplitl [H0]; · iexact H0
  isplitl [H1]; · iexact H1
  isplitl [H2]; · iexact H2
  isplitl [H3]; · iexact H3
  isplitl [H4]; · iexists _; iexact H4
  isplitl [H5]; · iexact H5
  isplitl [HS0]; · iexact HS0
  iintro ⟨H0, H1, H2, H3, ⟨%f4, H4⟩, H5, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]
  · unfold owns
    iexists _, _; isplitr
    swap; · iexact H4
    ipureintro; rfl
  unfold owns
  iexists _, _; isplitr
  swap; · iexact H5
  ipureintro; rfl

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (fun c => (dats m 0 c).toRForget forgets0) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

/-- The kernel over the words and the kernel over the extended reals have the same body, -/
theorem defs₀_eq : Cert.Down.defs₀ (F := F) = Cert.DownIdeal.defs₀ (F := F) := by
  refine congrArg (Defs.onTc (Λ := Cert.DownIdeal.Λ₀)) (funext fun l => funext fun a => ?_)
  match l, a with
  | ⟨0, _⟩, (t, s) =>
    show Cert.Down.cc0_down _ _ _ _ _ _ _ _ _ _ _ _ _ _ _ = Cert.DownIdeal.cc0_down _ _ _ _ _ _ _ _ _ _ _ _ _ _ _
    with_unfolding_all exact rfl

/-- the same pipeline -/
theorem defs_eq : Cert.Down.defs (F := F) = Cert.DownIdeal.defs (F := F) := by
  unfold Cert.Down.defs Cert.DownIdeal.defs
  rw [← defs₀_eq]
  with_unfolding_all exact rfl

/-- and so the same frame. -/
theorem quiescent : Cert.quiescent_Down (hDown := Cert.Down.Gen.facts) := fun m ρ _ => by
  have h := frame (F := Bits) m ρ
  rw [← defs_eq] at h
  with_unfolding_all exact h

end Cert.DownIdeal.Words

end
-- ==== Proof.GateUp.Run.lean ====
module

public import proofs.«01_k».proof.Proof.Gen.GateUpIdeal.Frame
public import proofs.«01_k».proof.Proof.Gen.GateUpIdeal.Skeleton
public import Idealize.ShloMosaic.Lib.Exec

@[expose] public section

set_option maxRecDepth 16384

noncomputable section

namespace Cert.GateUpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 22092000 in
/-- The gate and up body on whole staging memrefs: the inputs end as they were, the two tiles of codes at the stored
    pieces, the block of scales at what it held with the four rows of this point stored over it. -/
def gateRun (c : Dev nD) (i : grid0.Coords) (arg2 : Memref sig .tc .vmem S512x4096 .fp8e4m3) (harg2 : arg2.IsWhole) (arg3 : Memref sig .tc .vmem S512x4096 .fp8e4m3) (harg3 : arg3.IsWhole) (arg4 : Memref sig .tc .vmem S4x32x128 .f32) (harg4 : arg4.IsWhole) (arg5 : Memref sig .tc .vmem S4x32x128 .f32) (harg5 : arg5.IsWhole) (arg6 : Memref sig .tc .vmem S4096x1024 .fp8e4m3) (harg6 : arg6.IsWhole) (arg7 : Memref sig .tc .vmem S32x1024 .f32) (harg7 : arg7.IsWhole) (arg8 : Memref sig .tc .vmem S512x1024 .fp8e4m3) (harg8 : arg8.IsWhole) (arg9 : Memref sig .tc .vmem S1024x512 .fp8e4m3) (harg9 : arg9.IsWhole) (arg10 : Memref sig .tc .vmem S96x1024 .f32) (harg10 : arg10.IsWhole) (arg11 : Memref sig .tc .vmem S32x256 .f32) (harg11 : arg11.IsWhole) (arg12 : Memref sig .tc .vmem S32x256 .f32) (harg12 : arg12.IsWhole)
    (x0 : Vec F S512x4096 .fp8e4m3) (x1 : Vec F S512x4096 .fp8e4m3) (x2 : Vec F S4x32x128 .f32) (x3 : Vec F S4x32x128 .f32) (x4 : Vec F S4096x1024 .fp8e4m3) (x5 : Vec F S32x1024 .f32) (x8 : Vec F S96x1024 .f32) :
    Σ' (L6 : List (View.Piece (Elt F) S512x1024 .fp8e4m3)) (L7 : List (View.Piece (Elt F) S1024x512 .fp8e4m3)), { L8 : List (View.Piece (Elt F) S96x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare x8 ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (arg10.view.loc (c : Thread nD τ) ↦[arg10.view.set]{fullShare} arg10.view.writes (Elt F) (harg10.unread x8) L8) ∗ (∃ d, owns (c : Thread nD τ) arg11 fullShare d) ∗ (∃ d, owns (c : Thread nD τ) arg12 fullShare d)) -∗ K ⟨⟩))
          ⊢ wp frame (wpE (defs₀ (F := F)) Variants.none c none) E (cc0_gate_up i arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0_gate_up_eq_skeleton]; unfold cc0_gate_up_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hf8
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [H8]; · iexact H8
    isplitl [HS0]
    · iexists _, _; isplitr; swap; · iexact HS0
      ipureintro; rfl
    iexists _, _; isplitr; swap; · iexact HS1
    ipureintro; rfl

end Cert.GateUpIdeal.Gen

end
-- ==== Proof.GateUp.Body.lean ====
module

public import proofs.«01_k».proof.Proof.Gen.GateUpIdeal.Frame
public import proofs.«01_k».proof.Proof.GateUp.Run
public import Idealize.ShloMosaic.Lib.Pipeline.DatRel
public import Idealize.ShloMosaic.Lib.Pipeline.ArrRel
public import Idealize.ShloMosaic.Lib.Claim

@[expose] public section

set_option maxRecDepth 16384

noncomputable section

namespace Cert.GateUpIdeal.Rel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.GateUpIdeal.Gen hiding frame_of

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run over every reading of the floats, its three results held to a predicate -/

/-- The frame claim's post, from the run's. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 4 rfl).trans ((hA c 4).trans (V_main_arg2 m c)),
      (Pipeline.RDat.FramePost.arr_in h c 5 rfl).trans ((hA c 5).trans (V_main_arg3 m c))⟩) h

abbrev ms0_0 (t : Fin cfg0.N) : Memref sig .tc .vmem S512x4096 .fp8e4m3 := win0_0.stage (cfg0.slots t 0)
abbrev ms0_1 (t : Fin cfg0.N) : Memref sig .tc .vmem S512x4096 .fp8e4m3 := win0_1.stage (cfg0.slots t 1)
abbrev ms0_2 (t : Fin cfg0.N) : Memref sig .tc .vmem S4x32x128 .f32 := win0_2.stage (cfg0.slots t 2)
abbrev ms0_3 (t : Fin cfg0.N) : Memref sig .tc .vmem S4x32x128 .f32 := win0_3.stage (cfg0.slots t 3)
abbrev ms0_4 (t : Fin cfg0.N) : Memref sig .tc .vmem S4096x1024 .fp8e4m3 := win0_4.stage (cfg0.slots t 4)
abbrev ms0_5 (t : Fin cfg0.N) : Memref sig .tc .vmem S32x1024 .f32 := win0_5.stage (cfg0.slots t 5)
abbrev ms0_6 (t : Fin cfg0.N) : Memref sig .tc .vmem S512x1024 .fp8e4m3 := win0_6.stage (cfg0.slots t 6)
abbrev ms0_7 (t : Fin cfg0.N) : Memref sig .tc .vmem S1024x512 .fp8e4m3 := win0_7.stage (cfg0.slots t 7)
abbrev ms0_8 (t : Fin cfg0.N) : Memref sig .tc .vmem S96x1024 .f32 := win0_8.stage (cfg0.slots t 8)
abbrev scM0_0 : Memref sig .tc .vmem S32x256 .f32 := Memref.whole cc0_scratch0
abbrev scM0_1 : Memref sig .tc .vmem S32x256 .f32 := Memref.whole cc0_scratch1
theorem hs0 (t : Fin cfg0.N) : (ms0_0 t).IsWhole := hstage0_0 ((cfg0.slots t 0).cast nbuf0_0)
theorem hs1 (t : Fin cfg0.N) : (ms0_1 t).IsWhole := hstage0_1 ((cfg0.slots t 1).cast nbuf0_1)
theorem hs2 (t : Fin cfg0.N) : (ms0_2 t).IsWhole := hstage0_2 ((cfg0.slots t 2).cast nbuf0_2)
theorem hs3 (t : Fin cfg0.N) : (ms0_3 t).IsWhole := hstage0_3 ((cfg0.slots t 3).cast nbuf0_3)
theorem hs4 (t : Fin cfg0.N) : (ms0_4 t).IsWhole := hstage0_4 ((cfg0.slots t 4).cast nbuf0_4)
theorem hs5 (t : Fin cfg0.N) : (ms0_5 t).IsWhole := hstage0_5 ((cfg0.slots t 5).cast nbuf0_5)
theorem hs6 (t : Fin cfg0.N) : (ms0_6 t).IsWhole := hstage0_6 ((cfg0.slots t 6).cast nbuf0_6)
theorem hs7 (t : Fin cfg0.N) : (ms0_7 t).IsWhole := hstage0_7 ((cfg0.slots t 7).cast nbuf0_7)
theorem hs8 (t : Fin cfg0.N) : (ms0_8 t).IsWhole := hstage0_8 ((cfg0.slots t 8).cast nbuf0_8)

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- The three results are held to a predicate each. -/
def held0 : Fin 9 → Bool := fun w => w.val == 6 || w.val == 7 || w.val == 8

/-- A predicate on what each window's buffer holds after the body at a point. -/
abbrev Says (F : FTy → Type) : Type := (w : Fin cfg0.W) → Fin cfg0.N → ((cfg0.win w).block.Idx → Elt F (cfg0.win w).elt) → Prop

/-- What each window's buffer holds after the body at a point: the inputs' blocks as they were. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- An input's buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

variable (Rl : Says F)

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ Y, ⌜((dats m 0 c).toRRel held0 Rl).Finds 6 t Y⌝ ∗ owns (c : Thread nD τ) (ms0_6 t) fullShare Y)
    ∗ (∃ Y, ⌜((dats m 0 c).toRRel held0 Rl).Finds 7 t Y⌝ ∗ owns (c : Thread nD τ) (ms0_7 t) fullShare Y)
    ∗ (∃ Y, ⌜((dats m 0 c).toRRel held0 Rl).Finds 8 t Y⌝ ∗ owns (c : Thread nD τ) (ms0_8 t) fullShare Y))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (∃ X, ⌜Rl 6 t X⌝ ∗ owns (c : Thread nD τ) (ms0_6 t) fullShare X)
    ∗ (∃ X, ⌜Rl 7 t X⌝ ∗ owns (c : Thread nD τ) (ms0_7 t) fullShare X)
    ∗ (∃ X, ⌜Rl 8 t X⌝ ∗ owns (c : Thread nD τ) (ms0_8 t) fullShare X))

/-- The run of the body at a point, where the block of scales holds `x8`. -/
abbrev runAt (c : Dev nD) (t : Fin cfg0.N) (x8 : Vec F S96x1024 .f32) :=
  gateRun (F := F) c (grid0.coords t) (ms0_0 t) (hs0 t) (ms0_1 t) (hs1 t) (ms0_2 t) (hs2 t) (ms0_3 t) (hs3 t) (ms0_4 t) (hs4 t) (ms0_5 t) (hs5 t) (ms0_6 t) (hs6 t) (ms0_7 t) (hs7 t) (ms0_8 t) (hs8 t) scM0_0 (Memref.isWhole_whole _) scM0_1 (Memref.isWhole_whole _)
    (iblk m c 0 t) (iblk m c 1 t) (iblk m c 2 t) (iblk m c 3 t) (iblk m c 4 t) (iblk m c 5 t) x8

/-- What the body leaves meets the predicate: the tiles of codes whatever was there, the block of scales if what was there
    met it at the point before. -/
structure Keeps (c : Dev nD) : Prop where
  h6 : ∀ (t : Fin cfg0.N) (x8) (f : Buf (Elt F) ((ms0_6 t).view.loc (c : Thread nD τ))),
    Rl 6 t ((ms0_6 t).view.read (Elt F) ((ms0_6 t).view.writes (Elt F) f (runAt m c t x8).1))
  h7 : ∀ (t : Fin cfg0.N) (x8) (f : Buf (Elt F) ((ms0_7 t).view.loc (c : Thread nD τ))),
    Rl 7 t ((ms0_7 t).view.read (Elt F) ((ms0_7 t).view.writes (Elt F) f (runAt m c t x8).2.1))
  h8 : ∀ (t : Fin cfg0.N) (Y), ((dats m 0 c).toRRel held0 Rl).Finds 8 t Y →
    Rl 8 t ((ms0_8 t).view.read (Elt F) ((ms0_8 t).view.writes (Elt F) ((hs8 t).unread Y) (runAt m c t Y).2.2.1))

variable {Rl}

set_option maxHeartbeats 1600000 in
/-- The body at any point. -/
theorem sound_body (c : Dev nD) (hk : Keeps m Rl c) (t : Fin cfg0.N) :
    bodyPre m Rl c t ⊢ wp frame (wpE (defs₀ (F := F)) Variants.none c none) Set.univ (bodyAt0 t) (fun _ => bodyPost m Rl c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  rw [show (dats m 0 c).leavesExact 0 t = owns (c : Thread nD τ) (ms0_0 t) fullShare (iblk m c 0 t) from rfl,
    show (dats m 0 c).leavesExact 1 t = owns (c : Thread nD τ) (ms0_1 t) fullShare (iblk m c 1 t) from rfl,
    show (dats m 0 c).leavesExact 2 t = owns (c : Thread nD τ) (ms0_2 t) fullShare (iblk m c 2 t) from rfl,
    show (dats m 0 c).leavesExact 3 t = owns (c : Thread nD τ) (ms0_3 t) fullShare (iblk m c 3 t) from rfl,
    show (dats m 0 c).leavesExact 4 t = owns (c : Thread nD τ) (ms0_4 t) fullShare (iblk m c 4 t) from rfl,
    show (dats m 0 c).leavesExact 5 t = owns (c : Thread nD τ) (ms0_5 t) fullShare (iblk m c 5 t) from rfl]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%Y6, %hY6, H6⟩, ⟨%Y7, %hY7, H7⟩, ⟨%Y8, %hY8, H8⟩⟩
  iapply ((runAt m c t Y8).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexact H8
  isplitl [HS0]; · iexact HS0
  isplitl [HS1]; · iexact HS1
  iintro ⟨H0, H1, H2, H3, H4, H5, ⟨%f6, H6⟩, ⟨%f7, H7⟩, H8, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iexists _; isplitr
    · ipureintro; exact hk.h6 t Y8 f6
    unfold owns
    iexists _; isplitr
    swap; · iexact H6
    ipureintro; rfl
  isplitl [H7]
  · iexists _; isplitr
    · ipureintro; exact hk.h7 t Y8 f7
    unfold owns
    iexists _; isplitr
    swap; · iexact H7
    ipureintro; rfl
  iexists _; isplitr
  · ipureintro; exact hk.h8 t Y8 hY8
  unfold owns
  iexists _; isplitr
  swap; · iexact H8
  ipureintro; rfl

theorem defs₀_row (t : Fin cfg0.N) :
    defs₀ (F := F) .tc cfg0.body (cfg0.bodyArgs t (cfg0.slots t)) = bodyAt0 t := by
  unfold defs₀; rw [Defs.onTc_tc]

theorem body_obligation (c : Dev nD) (hk : Keeps m Rl c) :
    Pipeline.BodyObligationRel (dats (F := F) m 0 c) (defs₀ (F := F)) Variants.none () Set.univ held0 Rl := fun t => by
  rw [bigSep_W0, bigSep_W0, defs₀_row]
  exact triple_restated (sound_body m c hk t) rfl .rfl fun _ => .rfl

/-! ## The run and the frame -/

variable {Rs : Dev nD → Says F}

set_option backward.isDefEq.respectTransparency.types false in
set_option maxHeartbeats 800000 in
theorem run_main_quiescent (hk : ∀ c, Keeps m (Rs c) c) : θ_run defs (onTc (τ := τ) (main (F := F))) (s₀ m ρ)
    (fun r => (Pipeline.RDat.FramePost (cfgs 0) (fun c => (dats m 0 c).toRRel held0 (Rs c)) (V m)) r ∧ r.2.sem = fun _ => 0) :=
  Pipeline.RDat.θ_run_frame_track_shared (Q' := _) cfgs (0 : Fin 1) launch₀0 defs₀ Variants.none (fun c => (dats m 0 c).toRRel held0 (Rs c)) m ρ main
    (hbody := fun c => (body_obligation m c (hk c)).toRRel) (hq := fun _ _ _ => rfl)
    (howed := fun _ _ => rfl) (V := V m) (hmain := hmain m Variants.none) (hA := A_eq m) (hin := fun _ => .rfl) (hout := fun _ => .rfl)

theorem run_main (hk : ∀ c, Keeps m (Rs c) c) : θ_run defs (onTc (τ := τ) (main (F := F))) (s₀ m ρ)
    (Pipeline.RDat.FramePost (cfgs 0) (fun c => (dats m 0 c).toRRel held0 (Rs c)) (V m)) :=
  (θ_run defs _ _).mono (fun _ h => h.1) (run_main_quiescent m ρ hk)

/-- For the frame nothing is said of the results. -/
theorem keeps_true (c : Dev nD) : Keeps (F := F) m (fun _ _ _ => True) c :=
  ⟨fun _ _ _ => trivial, fun _ _ _ => trivial, fun _ _ _ => trivial⟩

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (fun c => (dats m 0 c).toRRel held0 fun _ _ _ => True) (A_eq m) (run_main m ρ (Rs := fun _ _ _ _ => True) (keeps_true m))

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ (Rs := fun _ _ _ _ => True) (keeps_true m)))

end Cert.GateUpIdeal.Rel

end
-- ==== Proof.Common.Quant.lean ====
module

public import proofs.«01_k».proof.Proof.Common.Sums

@[expose] public section

set_option maxRecDepth 16384

noncomputable section

namespace Cert.Common

open Idealize.ShloMosaic
open scoped BigOperators

/-- The largest magnitude of a block of 128 values. -/
def amaxOf (f : Fin 128 → EReal) : EReal :=
  Finset.univ.fold (FloatOps.maximumf (F := Ideal) (φ := .f32)) (FloatOps.ofBits (F := Ideal) .f32 0xFF800000#32)
    fun k => FloatOps.absf (F := Ideal) (φ := .f32) (f k)

/-- A largest magnitude over 448. -/
def ratioOf (a : EReal) : EReal :=
  FloatOps.mulf (F := Ideal) (φ := .f32) a (FloatOps.ofBits (F := Ideal) .f32 0x3B124925#32)

/-- The exponent of the scale: how many of the powers of two from `2^(-149)` on are at most the ratio, less 149; zero
    where the ratio is not a positive finite value. -/
def expoOf (a : EReal) : BitVec 32 :=
  Scalar.select (IntOp.andi (IntOp.andi (FloatOps.cmpf (F := Ideal) (φ := .f32) .ogt (ratioOf a) (FloatOps.ofBits (F := Ideal) .f32 0x00000000#32))
      (FloatOps.cmpf (F := Ideal) (φ := .f32) .olt (ratioOf a) (FloatOps.ofBits (F := Ideal) .f32 0x7F800000#32)))
      (FloatOps.cmpf (F := Ideal) (φ := .f32) .one a (FloatOps.ofBits (F := Ideal) .f32 0x00000000#32)))
    (IntOp.subi (Finset.univ.fold IntOp.addi 0#32 fun n : Fin 277 =>
      (FloatOps.cmpf (F := Ideal) (φ := .f32) .oge (ratioOf a) (Ideal.exp2 (((n.val : ℝ) - 149 : ℝ) : EReal))).setWidth 32) 149#32) 0#32

/-- The power of two of an exponent. -/
def powOf (e : BitVec 32) : EReal := Ideal.exp2 (((e.toInt : ℝ)) : EReal)

/-- A value's code: the value over its block's scale, clipped to the range of the codes. -/
def codeOf (a v : EReal) : EReal :=
  FloatOps.minimumf (F := Ideal) (φ := .f32) (FloatOps.ofBits (F := Ideal) .f32 0x43E00000#32)
    (FloatOps.maximumf (F := Ideal) (φ := .f32) (FloatOps.ofBits (F := Ideal) .f32 0xC3E00000#32)
      (FloatOps.mulf (F := Ideal) (φ := .f32) v (powOf (IntOp.subi 0#32 (expoOf a)))))

/-! ## The kernel's way to the same values -/

/-- What a word reads as, from its three fields: a positive one with exponent field zero, -/
theorem ieee_small {w : BitVec 32} {f : ℕ} (hs : (w.extractLsb' 31 1 == 1#1) = false) (he : (w.extractLsb' 23 8).toNat = 0)
    (hf : (w.extractLsb' 0 23).toNat = f) : Ideal.ofBits .f32 w = (((f : ℝ) * (2 : ℝ) ^ (-149 : ℤ) : ℝ) : EReal) := by
  show Ideal.ieee 8 23 w = _
  unfold Ideal.ieee
  simp only [show 8 + 23 = 31 from rfl, hs, he, hf]
  norm_num

/-- and a positive power of two. -/
theorem ieee_normal {w : BitVec 32} {x : ℕ} (hs : (w.extractLsb' 31 1 == 1#1) = false) (he : (w.extractLsb' 23 8).toNat = x)
    (hf : (w.extractLsb' 0 23).toNat = 0) (h0 : x ≠ 0) (h1 : x ≠ 255) :
    Ideal.ofBits .f32 w = (((2 : ℝ) ^ ((x : ℤ) - 127) : ℝ) : EReal) := by
  show Ideal.ieee 8 23 w = _
  unfold Ideal.ieee
  simp only [show 8 + 23 = 31 from rfl, hs, he, hf]
  rw [if_neg (by norm_num; exact h1), if_neg h0]
  congr 1
  have e : ((x : ℤ) - 127) = 23 + ((x : ℤ) - (2 ^ (8 - 1) - 1) - (23 : ℕ)) := by norm_num
  rw [e, zpow_add₀ (by norm_num : (2 : ℝ) ≠ 0)]
  norm_num

theorem exp2_int (k : ℤ) : Ideal.exp2 ((k : ℝ) : EReal) = (((2 : ℝ) ^ k : ℝ) : EReal) :=
  congrArg ((↑) : ℝ → EReal) (Real.rpow_intCast 2 k)

/-- The kernel's word of the power `2^(n - 149)`. -/
abbrev stepWord (n : ℕ) : BitVec 32 :=
  Scalar.select (IntOp.cmpi .slt (BitVec.ofNat 32 n) 23#32) (IntOp.shli .vector 1#32 (BitVec.ofNat 32 n))
    (IntOp.shli .vector (IntOp.subi (BitVec.ofNat 32 n) 22#32) 23#32)

theorem step_small : ∀ n : Fin 23, ((stepWord n).extractLsb' 31 1 == 1#1) = false ∧ ((stepWord n).extractLsb' 23 8).toNat = 0
    ∧ ((stepWord n).extractLsb' 0 23).toNat = 2 ^ n.val := by decide +kernel

theorem step_normal : ∀ n : Fin 254, ((stepWord (23 + n)).extractLsb' 31 1 == 1#1) = false
    ∧ ((stepWord (23 + n)).extractLsb' 23 8).toNat = 1 + n.val ∧ ((stepWord (23 + n)).extractLsb' 0 23).toNat = 0 := by decide +kernel

/-- The powers of two from `2^(-149)` to `2^127`, by their words. -/
theorem steps_bits (n : Fin 277) : Ideal.ofBits .f32 (stepWord n) = Ideal.exp2 (((n.val : ℝ) - 149 : ℝ) : EReal) := by
  rw [show ((n.val : ℝ) - 149 : ℝ) = ((((n.val : ℤ) - 149 : ℤ)) : ℝ) by push_cast; ring, exp2_int]
  by_cases h : n.val < 23
  · obtain ⟨h1, h2, h3⟩ := step_small ⟨n.val, h⟩
    rw [ieee_small h1 h2 h3]
    congr 1
    rw [show ((n.val : ℤ) - 149) = (n.val : ℤ) + (-149) by ring, zpow_add₀ (by norm_num : (2 : ℝ) ≠ 0)]
    push_cast
    rw [zpow_natCast]
  · obtain ⟨h1, h2, h3⟩ := step_normal ⟨n.val - 23, by omega⟩
    have e : 23 + (n.val - 23) = n.val := by omega
    simp only [e] at h1 h2 h3
    rw [ieee_normal h1 h2 h3 (by omega) (by omega)]
    congr 2
    push_cast [Nat.cast_sub (show 23 ≤ n.val by omega)]
    ring

/-- Half of an exponent, rounded down. -/
abbrev halfOf (e : BitVec 32) : BitVec 32 := IntOp.shrsi .vector e 1#32
/-- The word of the power of two of a small exponent. -/
abbrev wordOf (e : BitVec 32) : BitVec 32 := IntOp.shli .vector (IntOp.addi e 127#32) 23#32

theorem half_fields : ∀ n : Fin 299,
    ((wordOf (halfOf (BitVec.ofInt 32 ((n.val : ℤ) - 149)))).extractLsb' 31 1 == 1#1) = false
    ∧ ((wordOf (halfOf (BitVec.ofInt 32 ((n.val : ℤ) - 149)))).extractLsb' 23 8).toNat = (n.val + 1) / 2 + 52
    ∧ ((wordOf (halfOf (BitVec.ofInt 32 ((n.val : ℤ) - 149)))).extractLsb' 0 23).toNat = 0 := by decide +kernel

theorem rest_fields : ∀ n : Fin 299,
    ((wordOf (IntOp.subi (BitVec.ofInt 32 ((n.val : ℤ) - 149)) (halfOf (BitVec.ofInt 32 ((n.val : ℤ) - 149))))).extractLsb' 31 1 == 1#1) = false
    ∧ ((wordOf (IntOp.subi (BitVec.ofInt 32 ((n.val : ℤ) - 149)) (halfOf (BitVec.ofInt 32 ((n.val : ℤ) - 149))))).extractLsb' 23 8).toNat = n.val / 2 + 53
    ∧ ((wordOf (IntOp.subi (BitVec.ofInt 32 ((n.val : ℤ) - 149)) (halfOf (BitVec.ofInt 32 ((n.val : ℤ) - 149))))).extractLsb' 0 23).toNat = 0 := by
  decide +kernel

/-- The power of two of an exponent is the product of those of its two halves. -/
theorem pow_bits (e : BitVec 32) (h : -149 ≤ e.toInt ∧ e.toInt ≤ 149) :
    Ideal.ofBits .f32 (wordOf (halfOf e)) * Ideal.ofBits .f32 (wordOf (IntOp.subi e (halfOf e))) = powOf e := by
  obtain ⟨n, hn⟩ : ∃ n : Fin 299, (n.val : ℤ) - 149 = e.toInt := ⟨⟨(e.toInt + 149).toNat, by omega⟩, by simp only; omega⟩
  have he : e = BitVec.ofInt 32 ((n.val : ℤ) - 149) := by rw [hn, BitVec.ofInt_toInt]
  unfold powOf
  rw [← hn, exp2_int, he]
  obtain ⟨a1, a2, a3⟩ := half_fields n
  obtain ⟨b1, b2, b3⟩ := rest_fields n
  have hn' := n.isLt
  refine (congr (congrArg _ (ieee_normal a1 a2 a3 (by omega) (by omega))) (ieee_normal b1 b2 b3 (by omega) (by omega))).trans ?_
  rw [← EReal.coe_mul, ← zpow_add₀ (by norm_num : (2 : ℝ) ≠ 0)]
  exact congrArg (fun k : ℤ => (((2 : ℝ) ^ k : ℝ) : EReal)) (by push_cast; omega)

/-- A sum of words that are each zero or one is at most how many there are. -/
theorem count_le {α : Type} [DecidableEq α] (s : Finset α) (f : α → BitVec 1) :
    (s.fold IntOp.addi 0#32 fun x => (f x).setWidth 32).toNat ≤ s.card := by
  induction s using Finset.induction_on with
  | empty => simp
  | insert a s ha ih =>
    rw [Finset.fold_insert ha, Finset.card_insert_of_notMem ha]
    have h1 : ((f a).setWidth 32).toNat ≤ 1 := by
      rw [BitVec.toNat_setWidth]
      have := (f a).isLt
      exact (Nat.mod_le _ _).trans (by omega)
    show (_ + _ : BitVec 32).toNat ≤ _
    rw [BitVec.toNat_add]
    exact (Nat.mod_le _ _).trans (by omega)

/-- The exponents that occur. -/
theorem expo_range (a : EReal) : -149 ≤ (expoOf a).toInt ∧ (expoOf a).toInt ≤ 128 := by
  unfold expoOf
  have h := count_le (Finset.univ : Finset (Fin 277)) (fun n =>
      FloatOps.cmpf (F := Ideal) (φ := .f32) .oge (ratioOf a) (Ideal.exp2 (((n.val : ℝ) - 149 : ℝ) : EReal)))
  generalize (Finset.univ.fold IntOp.addi 0#32 fun n : Fin 277 => (FloatOps.cmpf (F := Ideal) (φ := .f32) .oge (ratioOf a) (Ideal.exp2 (((n.val : ℝ) - 149 : ℝ) : EReal))).setWidth 32) = c at h ⊢
  rw [Finset.card_univ, Fintype.card_fin] at h
  unfold Scalar.select
  have hs : (IntOp.subi c 149#32).toInt = (c.toNat : ℤ) - 149 := by
    show (c - 149#32).toInt = _
    rw [BitVec.toInt_eq_toNat_bmod, BitVec.toNat_sub, Int.bmod_def]
    simp only [BitVec.toNat_ofNat]
    omega
  split
  · rw [hs]; omega
  · decide

theorem neg_range {e : BitVec 32} (h : -149 ≤ e.toInt ∧ e.toInt ≤ 149) :
    -149 ≤ (IntOp.subi 0#32 e).toInt ∧ (IntOp.subi 0#32 e).toInt ≤ 149 := by
  have hs : (IntOp.subi 0#32 e).toInt = - e.toInt := by
    show (0#32 - e).toInt = _
    have h1 := BitVec.toInt_eq_toNat_bmod e
    rw [BitVec.toInt_eq_toNat_bmod, BitVec.toNat_sub, Int.bmod_def]
    rw [Int.bmod_def] at h1
    simp only [BitVec.toNat_ofNat]
    have := e.isLt
    omega
  rw [hs]; omega

abbrev vAmax (h : FVec Ideal (Sh2 128 256) .f32) {hr : (Sh2 128 256).Reduces [0] ⟨1, ![256]⟩} {hc : Shape.ShapeCasts ⟨1, ![256]⟩ (Sh2 1 256)} :
    FVec Ideal (Sh2 1 256) .f32 :=
  shapeCast (Sh2 1 256) (multiReduction .maximumf [0] ⟨1, ![256]⟩ (absf h) 0xFF800000#32 hr (.inl rfl) rfl) hc

abbrev vRatio (a : FVec Ideal (Sh2 1 256) .f32) : FVec Ideal (Sh2 1 256) .f32 :=
  mulf a (broadcast (Sh2 1 256) (Scalar.ofBits .f32 0x3B124925#32))

abbrev vCount (r : FVec Ideal (Sh2 1 256) .f32) {hi : (Sh3 277 1 256).Iotas .tc 32 [0]} {hc : (Sh2 1 256).ShapeCasts (Sh3 1 1 256)}
    {hb : (Sh3 1 1 256).Broadcasts (Sh3 277 1 256)} {hr : (Sh3 277 1 256).Reduces [0] (Sh2 1 256)} {hw : 1 < 32} : IVec (Sh2 1 256) 32 :=
  multiReductionI .add [0] (Sh2 1 256) (extui 32 (cmpf .oge (broadcastTo (Sh3 277 1 256) (shapeCast (Sh3 1 1 256) r hc) hb)
    (bitcastToFloat .f32 (select (cmpi .slt (iota .tc (Sh3 277 1 256) 32 [0] hi) (broadcast (Sh3 277 1 256) 23#32))
      (shli (broadcast (Sh3 277 1 256) 1#32) (iota .tc (Sh3 277 1 256) 32 [0] hi))
      (shli (subi (iota .tc (Sh3 277 1 256) 32 [0] hi) (broadcast (Sh3 277 1 256) 22#32)) (broadcast (Sh3 277 1 256) 23#32))))) hw) 0#32 hr rfl

abbrev vExpo (a r : FVec Ideal (Sh2 1 256) .f32) (n : IVec (Sh2 1 256) 32) : IVec (Sh2 1 256) 32 :=
  select (cmpf .oeq a (broadcast (Sh2 1 256) (Scalar.ofBits .f32 0x00000000#32))) (broadcast (Sh2 1 256) 0#32)
    (select (andi (cmpf .ogt r (broadcast (Sh2 1 256) (Scalar.ofBits .f32 0x00000000#32)))
        (cmpf .olt r (broadcast (Sh2 1 256) (Scalar.ofBits .f32 0x7F800000#32))))
      (subi n (broadcast (Sh2 1 256) 149#32)) (broadcast (Sh2 1 256) 0#32))

abbrev vHalf (e : IVec (Sh2 1 256) 32) : IVec (Sh2 1 256) 32 := shrsi e (broadcast (Sh2 1 256) 1#32)

abbrev vWord (e : IVec (Sh2 1 256) 32) : FVec Ideal (Sh2 1 256) .f32 :=
  bitcastToFloat .f32 (shli (addi e (broadcast (Sh2 1 256) 127#32)) (broadcast (Sh2 1 256) 23#32))

abbrev vPow (e : IVec (Sh2 1 256) 32) : FVec Ideal (Sh2 1 256) .f32 :=
  mulf (vWord (vHalf e)) (vWord (subi e (vHalf e)))

abbrev vCode (h : FVec Ideal (Sh2 128 256) .f32) (s : FVec Ideal (Sh2 1 256) .f32) {hb : (Sh2 1 256).Broadcasts (Sh2 128 256)} :
    FVec Ideal (Sh2 128 256) .f32 :=
  minimumf (broadcast (Sh2 128 256) (Scalar.ofBits .f32 0x43E00000#32))
    (maximumf (broadcast (Sh2 128 256) (Scalar.ofBits .f32 0xC3E00000#32)) (mulf h (broadcastTo (Sh2 128 256) s hb)))

theorem vAmax_at (h : FVec Ideal (Sh2 128 256) .f32) {hr hc} (z : Fin 1) (j : Fin 256) :
    vAmax h (hr := hr) (hc := hc) (ix2 z j) = amaxOf fun k => h (ix2 k j) := by
  unfold amaxOf
  pointwise

theorem vExpo_at (a : FVec Ideal (Sh2 1 256) .f32) {hi hc hb hr hw} (z : Fin 1) (j : Fin 256) :
    vExpo a (vRatio a) (vCount (vRatio a) (hi := hi) (hc := hc) (hb := hb) (hr := hr) (hw := hw)) (ix2 z j) = expoOf (a (ix2 z j)) := by
  unfold expoOf ratioOf
  have hz : z = 0 := Subsingleton.elim _ _
  subst hz
  simp only [← steps_bits]
  pointwise
  by_cases h : a (ix2 0 j) = 0
  · simp [h, Scalar.select, IntOp.andi]
  · have h1 : ∀ b : BitVec 1, b &&& 1#1 = b := by decide
    simp [h, Scalar.select, IntOp.andi, h1]
    rfl

theorem vPow_at (e : IVec (Sh2 1 256) 32) (z : Fin 1) (j : Fin 256) (h : -149 ≤ (e (ix2 z j)).toInt ∧ (e (ix2 z j)).toInt ≤ 149) :
    vPow e (ix2 z j) = powOf (e (ix2 z j)) := by
  rw [← pow_bits _ h]
  pointwise

theorem vCode_at (h : FVec Ideal (Sh2 128 256) .f32) (s : FVec Ideal (Sh2 1 256) .f32) {hb} (k : Fin 128) (j : Fin 256) (a : EReal)
    (hs : s (ix2 0 j) = powOf (IntOp.subi 0#32 (expoOf a))) :
    vCode h s (hb := hb) (ix2 k j) = codeOf a (h (ix2 k j)) := by
  unfold codeOf
  rw [← hs]
  pointwise

/-! ## The kernel's tile of codes and its row of scales -/

abbrev vE (h : FVec Ideal (Sh2 128 256) .f32) {hr : (Sh2 128 256).Reduces [0] ⟨1, ![256]⟩} {hc : Shape.ShapeCasts ⟨1, ![256]⟩ (Sh2 1 256)}
    {hi : (Sh3 277 1 256).Iotas .tc 32 [0]} {hc' : (Sh2 1 256).ShapeCasts (Sh3 1 1 256)} {hb : (Sh3 1 1 256).Broadcasts (Sh3 277 1 256)}
    {hr' : (Sh3 277 1 256).Reduces [0] (Sh2 1 256)} {hw : 1 < 32} : IVec (Sh2 1 256) 32 :=
  vExpo (vAmax h (hr := hr) (hc := hc)) (vRatio (vAmax h (hr := hr) (hc := hc)))
    (vCount (vRatio (vAmax h (hr := hr) (hc := hc))) (hi := hi) (hc := hc') (hb := hb) (hr := hr') (hw := hw))

/-- The power of two of the scale of the 128 values of `f` from row `r` on, at column `c`. -/
def scaleOf (f : ℕ → ℕ → EReal) (r c : ℕ) : EReal := powOf (expoOf (amaxOf fun k => f (r + k.val) c))

/-- The code of the value of `f` at row `r` and column `c`, whose block of 128 rows starts at `128 * (r / 128)`. -/
def blockCode (f : ℕ → ℕ → EReal) (r c : ℕ) : EReal := codeOf (amaxOf fun k => f (128 * (r / 128) + k.val) c) (f r c)

variable {f : ℕ → ℕ → EReal} {R C : ℕ} {h : FVec Ideal (Sh2 128 256) .f32}

theorem vE_at (hh : IsBlk f R C h) {hr hc hi hc' hb hr' hw} (z : Fin 1) (j : Fin 256) :
    vE h (hr := hr) (hc := hc) (hi := hi) (hc' := hc') (hb := hb) (hr' := hr') (hw := hw) (ix2 z j)
      = expoOf (amaxOf fun k => f (R + k.val) (C + j)) := by
  refine (vExpo_at _ z j).trans ?_
  rw [vAmax_at]
  exact congrArg expoOf (congrArg amaxOf (funext fun k => hh k j))

theorem vScale_at (hh : IsBlk f R C h) {hr hc hi hc' hb hr' hw} (z : Fin 1) (j : Fin 256) :
    vPow (vE h (hr := hr) (hc := hc) (hi := hi) (hc' := hc') (hb := hb) (hr' := hr') (hw := hw)) (ix2 z j) = scaleOf f R (C + j) := by
  have e := vE_at hh (hr := hr) (hc := hc) (hi := hi) (hc' := hc') (hb := hb) (hr' := hr') (hw := hw) z j
  have hrange := expo_range (amaxOf fun k => f (R + k.val) (C + j))
  rw [← e] at hrange
  refine (vPow_at _ z j ⟨hrange.1, by omega⟩).trans ?_
  rw [e]; rfl

theorem vBlock_at (hh : IsBlk f R C h) (hR : R = 128 * (R / 128)) {hr hc hi hc' hb hr' hw hb'} (i : Fin 128) (j : Fin 256) :
    vCode h (vPow (subi (broadcast (Sh2 1 256) 0#32)
        (vE h (hr := hr) (hc := hc) (hi := hi) (hc' := hc') (hb := hb) (hr' := hr') (hw := hw)))) (hb := hb') (ix2 i j)
      = blockCode f (R + i) (C + j) := by
  have e := vE_at hh (hr := hr) (hc := hc) (hi := hi) (hc' := hc') (hb := hb) (hr' := hr') (hw := hw) 0 j
  have hrange := expo_range (amaxOf fun k => f (R + k.val) (C + j))
  rw [← e] at hrange
  have hneg := neg_range (e := vE h (hr := hr) (hc := hc) (hi := hi) (hc' := hc') (hb := hb) (hr' := hr') (hw := hw) (ix2 0 j))
    ⟨hrange.1, by omega⟩
  refine (vCode_at h _ i j (amaxOf fun k => f (R + k.val) (C + j)) ?_).trans ?_
  · refine (vPow_at (subi (broadcast (Sh2 1 256) 0#32) (vE h (hr := hr) (hc := hc) (hi := hi) (hc' := hc') (hb := hb) (hr' := hr') (hw := hw))) 0 j hneg).trans ?_
    show powOf (IntOp.subi 0#32 (vE h (hr := hr) (hc := hc) (hi := hi) (hc' := hc') (hb := hb) (hr' := hr') (hw := hw) (ix2 0 j))) = _
    rw [e]
  · unfold blockCode
    rw [hh i j, show (R + i.val) / 128 = R / 128 by omega, ← hR]

end Cert.Common

end
-- ==== Proof.Common.Hidden.lean ====
module

public import proofs.«01_k».proof.Proof.Common.Quant

@[expose] public section

set_option maxRecDepth 16384

noncomputable section

namespace Cert.Common

open Idealize.ShloMosaic
open scoped BigOperators

/-- One hidden value: the gate times its logistic, times the up product. -/
def hiddenOf (g u : EReal) : EReal :=
  FloatOps.mulf (F := Ideal) (φ := .f32) (FloatOps.mulf (F := Ideal) (φ := .f32) g (FloatOps.logistic (F := Ideal) (φ := .f32) g)) u

/-! ## The hidden values and the three results, in the arguments -/

/-- One entry of the scaled product: for a column of the weights and a token, the groups' products, each scaled. -/
def prodOf (w : Vec Ideal (Sh2 4096 24576) .fp8e4m3) (ws : Vec Ideal (Sh2 32 192) .f32)
    (a : Vec Ideal (Sh2 4096 8192) .fp8e4m3) (xs : Vec Ideal (Sh2 32 8192) .f32) (r c : ℕ) : EReal :=
  ∑ g ∈ Finset.range 32, (∑ k ∈ Finset.range 128, at2 (m := 4096) (n := 24576) w (128 * g + k) r
    * at2 (m := 4096) (n := 8192) a (128 * g + k) c) * (at2 (m := 32) (n := 8192) xs g c * at2 (m := 32) (n := 192) ws g (r / 128))

/-- The hidden value of a hidden column and a token. -/
def hidOf (w : Vec Ideal (Sh2 4096 24576) .fp8e4m3) (ws : Vec Ideal (Sh2 32 192) .f32)
    (a : Vec Ideal (Sh2 4096 8192) .fp8e4m3) (xs : Vec Ideal (Sh2 32 8192) .f32) (r c : ℕ) : EReal :=
  hiddenOf (prodOf w ws a xs r c) (prodOf w ws a xs (12288 + r) c)

/-- The codes, one row per hidden column. -/
def codesTOf (f : ℕ → ℕ → EReal) : Vec Ideal (Sh2 12288 8192) .fp8e4m3 := fun y => blockCode f (y 0) (y 1)

/-- The codes, one row per token. -/
def codesOf (f : ℕ → ℕ → EReal) : Vec Ideal (Sh2 8192 12288) .fp8e4m3 := fun y => blockCode f (y 1) (y 0)

/-- The scales, one row per block of 128 hidden columns. -/
def scalesOf (f : ℕ → ℕ → EReal) : Vec Ideal (Sh2 96 8192) .f32 := fun y => scaleOf f (128 * (y 0).val) (y 1)

/-! ## A block of a function of rows and columns -/

section
variable {f h : ℕ → ℕ → EReal} {J C : ℕ}

theorem blockCode_shift (e : ∀ r c, r < 512 → c < 1024 → f r c = h (512 * J + r) (C + c)) {r c : ℕ} (hr : r < 512) (hc : c < 1024) :
    blockCode f r c = blockCode h (512 * J + r) (C + c) := by
  unfold blockCode
  rw [e r c hr hc]
  refine congrArg (fun a => codeOf a _) (congrArg amaxOf (funext fun k => ?_))
  have hk := k.isLt
  rw [e _ c (by omega) hc]
  exact congrArg (fun a => h a _) (by omega)

theorem scaleOf_shift (e : ∀ r c, r < 512 → c < 1024 → f r c = h (512 * J + r) (C + c)) {r c : ℕ} (hr : r + 128 ≤ 512) (hc : c < 1024) :
    scaleOf f r c = scaleOf h (512 * J + r) (C + c) := by
  unfold scaleOf
  refine congrArg powOf (congrArg expoOf (congrArg amaxOf (funext fun k => ?_)))
  have hk := k.isLt
  rw [e _ c (by omega) hc]
  exact congrArg (fun a => h a _) (by omega)
end

end Cert.Common

end
-- ==== Proof.GateUp.Value.lean ====
module

public import proofs.«01_k».proof.Proof.GateUp.Run
public import proofs.«01_k».proof.Proof.Common.Loads
public import proofs.«01_k».proof.Proof.Common.Hidden
public import Idealize.ShloMosaic.Lib.Tactic.RunNames

@[expose] public section

set_option maxRecDepth 16384

noncomputable section

namespace Cert.GateUpIdeal.Gen

open Idealize.ShloMosaic Idealize.ShloMosaic.TcCoe Idealize.SL.Sem Cert.Common
open scoped BigOperators

/-- One entry of a scaled product of a block: for a row of the weights and a token, the sum over the groups of the group's
    product, scaled by the token's scale and the weights' scale. -/
def prodAt (w : Vec Ideal S512x4096 .fp8e4m3) (sw : Vec Ideal S4x32x128 .f32) (a : Vec Ideal S4096x1024 .fp8e4m3)
    (sa : Vec Ideal S32x1024 .f32) (r c : ℕ) : EReal :=
  ∑ g ∈ Finset.range 32, (∑ k ∈ Finset.range 128, at2 (m := 512) (n := 4096) w r (128 * g + k)
    * at2 (m := 4096) (n := 1024) a (128 * g + k) c)
    * (at2 (m := 32) (n := 1024) sa g c * at3 (l := 4) (m := 32) (n := 128) sw (r / 128) g (c % 128))

/-- The hidden values of a block. -/
def hidden (x0 x1 : Vec Ideal S512x4096 .fp8e4m3) (x2 x3 : Vec Ideal S4x32x128 .f32) (x4 : Vec Ideal S4096x1024 .fp8e4m3) (x5 : Vec Ideal S32x1024 .f32) (r c : ℕ) : EReal :=
  hiddenOf (prodAt x0 x2 x4 x5 r c) (prodAt x1 x3 x4 x5 r c)

/-- Every piece of the list stores `G`'s values at its place. -/
def Stores {s : Shape} {e : EltTy} (G : s.Idx → Elt Ideal e) (L : List (View.Piece (Elt Ideal) s e)) : Prop :=
  ∀ p ∈ L, ∀ x, p.2 x = G (p.1.emb x)

theorem Stores.nil {s : Shape} {e : EltTy} {G : s.Idx → Elt Ideal e} : Stores G ([] : List (View.Piece (Elt Ideal) s e)) :=
  fun p hp => absurd hp List.not_mem_nil

theorem Stores.cons {s : Shape} {e : EltTy} {G : s.Idx → Elt Ideal e} {p : View.Piece (Elt Ideal) s e} {L : List (View.Piece (Elt Ideal) s e)}
    (hp : ∀ x, p.2 x = G (p.1.emb x)) (hL : Stores G L) : Stores G (p :: L) := fun q hq => by
  rcases List.mem_cons.1 hq with rfl | hq
  · exact hp
  · exact hL q hq

/-- The two products of a unit, over all 32 groups, make its hidden values. -/
theorem hidden_blk {x0 x1 : Vec Ideal S512x4096 .fp8e4m3} {x2 x3 : Vec Ideal S4x32x128 .f32} {x4 : Vec Ideal S4096x1024 .fp8e4m3}
    {x5 : Vec Ideal S32x1024 .f32} {R C : ℕ} {g u : FVec Ideal (Sh2 128 256) .f32} (hR : R = 128 * (R / 128)) (hC : C = 128 * (C / 128))
    (hg : Row (fun i k => at2 (m := 512) (n := 4096) x0 (R + i) k) (fun k j => at2 (m := 4096) (n := 1024) x4 k (C + j))
      (fun g j => at2 (m := 32) (n := 1024) x5 g (C + j) * at3 (l := 4) (m := 32) (n := 128) x2 (R / 128) g (j % 128)) 32 g)
    (hu : Row (fun i k => at2 (m := 512) (n := 4096) x1 (R + i) k) (fun k j => at2 (m := 4096) (n := 1024) x4 k (C + j))
      (fun g j => at2 (m := 32) (n := 1024) x5 g (C + j) * at3 (l := 4) (m := 32) (n := 128) x3 (R / 128) g (j % 128)) 32 u) :
    IsBlk (hidden x0 x1 x2 x3 x4 x5) R C (mulf (mulf g (logistic g)) u) := fun i j => by
  have e2 : (R + i.val) / 128 = R / 128 := by omega
  have e3 : (C + j.val) % 128 = j.val % 128 := by omega
  unfold hidden prodAt
  rw [e2, e3]
  show hiddenOf (g (ix2 i j)) (u (ix2 i j)) = _
  rw [hg i j, hu i j]
  rfl

section
variable {f : ℕ → ℕ → EReal} {R C : ℕ} {h : FVec Ideal (Sh2 128 256) .f32}

/-- The codes of a block, one row per hidden column. -/
def codesT (f : ℕ → ℕ → EReal) : Vec Ideal S512x1024 .fp8e4m3 := fun y => blockCode f (y 0) (y 1)
/-- The codes of a block, one row per token. -/
def codes (f : ℕ → ℕ → EReal) : Vec Ideal S1024x512 .fp8e4m3 := fun y => blockCode f (y 1) (y 0)

/-- A stored tile of codes, in front of other such tiles. -/
theorem Stores.codesT {inb : ∀ a, (![R, C] : Fin 2 → ℕ) a + (Sh2 128 256).size a ≤ (Sh2 512 1024).size a}
    {L : List (View.Piece (Elt Ideal) (Sh2 512 1024) .fp8e4m3)} {hr hc hi hc' hb hr' hw hb' hbits}
    (hR : R = 128 * (R / 128)) (hh : IsBlk f R C h) (hL : Stores (s := S512x1024) (e := .fp8e4m3) (codesT f) L) :
    Stores (s := S512x1024) (e := .fp8e4m3) (Cert.GateUpIdeal.Gen.codesT f)
      ((⟨Rect.unit (s := Sh2 512 1024) ![R, C] (Sh2 128 256).size inb,
        truncf (F := Ideal) .fp8e4m3 (vCode h (vPow (subi (broadcast (Sh2 1 256) 0#32)
          (vE h (hr := hr) (hc := hc) (hi := hi) (hc' := hc') (hb := hb) (hr' := hr') (hw := hw)))) (hb := hb')) hbits⟩
          : View.Piece (Elt Ideal) (Sh2 512 1024) .fp8e4m3) :: L) := by
  refine Stores.cons (fun x => ?_) hL
  obtain ⟨i, j, rfl⟩ : ∃ (i : Fin 128) (j : Fin 256), x = ix2 (n0 := 128) (n1 := 256) i j :=
    ⟨x 0, x 1, eq_ix2 (n0 := 128) (n1 := 256) x⟩
  refine (vBlock_at hh hR i j).trans ?_
  have e0 : (((Rect.unit (s := Sh2 512 1024) ![R, C] (Sh2 128 256).size inb).emb
      (ix2 (n0 := 128) (n1 := 256) i j)) 0).val = R + i.val := show R + 1 * i.val = R + i.val by omega
  have e1 : (((Rect.unit (s := Sh2 512 1024) ![R, C] (Sh2 128 256).size inb).emb
      (ix2 (n0 := 128) (n1 := 256) i j)) 1).val = C + j.val := show C + 1 * j.val = C + j.val by omega
  unfold Cert.GateUpIdeal.Gen.codesT
  rw [e0, e1]

/-- A stored transposed tile of codes, in front of other such tiles. -/
theorem Stores.codes {inb : ∀ a, (![C, R] : Fin 2 → ℕ) a + (Sh2 256 128).size a ≤ (Sh2 1024 512).size a}
    {L : List (View.Piece (Elt Ideal) (Sh2 1024 512) .fp8e4m3)} {hr hc hi hc' hb hr' hw hb' hbits ht}
    (hR : R = 128 * (R / 128)) (hh : IsBlk f R C h) (hL : Stores (s := S1024x512) (e := .fp8e4m3) (codes f) L) :
    Stores (s := S1024x512) (e := .fp8e4m3) (Cert.GateUpIdeal.Gen.codes f)
      ((⟨Rect.unit (s := Sh2 1024 512) ![C, R] (Sh2 256 128).size inb,
        truncf (F := Ideal) .fp8e4m3 (transpose (Sh2 256 128) [1, 0] (vCode h (vPow (subi (broadcast (Sh2 1 256) 0#32)
          (vE h (hr := hr) (hc := hc) (hi := hi) (hc' := hc') (hb := hb) (hr' := hr') (hw := hw)))) (hb := hb')) ht) hbits⟩
          : View.Piece (Elt Ideal) (Sh2 1024 512) .fp8e4m3) :: L) := by
  refine Stores.cons (fun x => ?_) hL
  obtain ⟨j, i, rfl⟩ : ∃ (j : Fin 256) (i : Fin 128), x = ix2 (n0 := 256) (n1 := 128) j i :=
    ⟨x 0, x 1, eq_ix2 (n0 := 256) (n1 := 128) x⟩
  refine (ValueIdx.transpose_ix2_apply _ ht j i).trans ((vBlock_at hh hR i j).trans ?_)
  have e0 : (((Rect.unit (s := Sh2 1024 512) ![C, R] (Sh2 256 128).size inb).emb
      (ix2 (n0 := 256) (n1 := 128) j i)) 0).val = C + j.val := show C + 1 * j.val = C + j.val by omega
  have e1 : (((Rect.unit (s := Sh2 1024 512) ![C, R] (Sh2 256 128).size inb).emb
      (ix2 (n0 := 256) (n1 := 128) j i)) 1).val = R + i.val := show R + 1 * i.val = R + i.val by omega
  unfold Cert.GateUpIdeal.Gen.codes
  rw [e0, e1]

/-- The rows of scales that a point stores, from row `q` of the block on. -/
def scalesT (f : ℕ → ℕ → EReal) (q : ℕ) : Vec Ideal S96x1024 .f32 := fun y => scaleOf f (128 * ((y 0).val - q)) (y 1)

/-- A stored row of scales, in front of other such rows. -/
theorem Stores.scalesT {q b : ℕ} {off : Fin 2 → ℕ} {inb : ∀ a, off a + (Sh2 1 256).size a ≤ (Sh2 96 1024).size a}
    {L : List (View.Piece (Elt Ideal) (Sh2 96 1024) .f32)} {hr hc hi hc' hb hr' hw}
    (ho : off = ![q + b, C]) (hR : R = 128 * b) (hh : IsBlk f R C h)
    (hL : Stores (s := S96x1024) (e := .f32) (scalesT f q) L) :
    Stores (s := S96x1024) (e := .f32) (Cert.GateUpIdeal.Gen.scalesT f q)
      ((⟨Rect.unit (s := Sh2 96 1024) off (Sh2 1 256).size inb,
        vPow (vE h (hr := hr) (hc := hc) (hi := hi) (hc' := hc') (hb := hb) (hr' := hr') (hw := hw))⟩
          : View.Piece (Elt Ideal) (Sh2 96 1024) .f32) :: L) := by
  subst ho
  refine Stores.cons (fun x => ?_) hL
  obtain ⟨z, j, rfl⟩ : ∃ (z : Fin 1) (j : Fin 256), x = ix2 (n0 := 1) (n1 := 256) z j :=
    ⟨x 0, x 1, eq_ix2 (n0 := 1) (n1 := 256) x⟩
  refine (vScale_at hh z j).trans ?_
  have e0 : (((Rect.unit (s := Sh2 96 1024) ![q + b, C] (Sh2 1 256).size inb).emb
      (ix2 (n0 := 1) (n1 := 256) z j)) 0).val = q + b := show q + b + 1 * z.val = q + b by omega
  have e1 : (((Rect.unit (s := Sh2 96 1024) ![q + b, C] (Sh2 1 256).size inb).emb
      (ix2 (n0 := 1) (n1 := 256) z j)) 1).val = C + j.val := show C + 1 * j.val = C + j.val by omega
  unfold Cert.GateUpIdeal.Gen.scalesT
  rw [e0, e1, hR, Nat.add_sub_cancel_left]

end

end Cert.GateUpIdeal.Gen

end
-- ==== Proof.GateUp.Blocks.lean ====
module

public import proofs.«01_k».proof.Proof.GateUp.Value
public import Idealize.ShloMosaic.Lib.Pipeline.ValueKit
public import Idealize.ShloMosaic.Lib.Pointwise

@[expose] public section

set_option maxRecDepth 16384

noncomputable section

namespace Cert.GateUpIdeal.Gen

open Idealize.ShloMosaic Idealize.ShloMosaic.TcCoe Idealize.SL.Sem Cert.Common
open scoped BigOperators

variable (m : (ℓ : Loc nD τ sig) → Buf (Elt Ideal) ℓ)

/-! ## The windows' blocks, entry by entry, in the arguments -/

theorem index0_0 : ∀ t : Fin cfg0.N, win0_0.index t = ![t.val % 24, 0] :=
  (by decide +kernel : ∀ t : Fin grid0.N, win0_0.index t = ![t.val % 24, 0])
theorem index0_1 : ∀ t : Fin cfg0.N, win0_1.index t = ![t.val % 24 + 24, 0] :=
  (by decide +kernel : ∀ t : Fin grid0.N, win0_1.index t = ![t.val % 24 + 24, 0])
theorem index0_2 : ∀ t : Fin cfg0.N, win0_2.index t = ![t.val % 24, 0, 0] :=
  (by decide +kernel : ∀ t : Fin grid0.N, win0_2.index t = ![t.val % 24, 0, 0])
theorem index0_3 : ∀ t : Fin cfg0.N, win0_3.index t = ![t.val % 24 + 24, 0, 0] :=
  (by decide +kernel : ∀ t : Fin grid0.N, win0_3.index t = ![t.val % 24 + 24, 0, 0])
theorem index0_4 : ∀ t : Fin cfg0.N, win0_4.index t = ![0, t.val / 24] :=
  (by decide +kernel : ∀ t : Fin grid0.N, win0_4.index t = ![0, t.val / 24])
theorem index0_5 : ∀ t : Fin cfg0.N, win0_5.index t = ![0, t.val / 24] :=
  (by decide +kernel : ∀ t : Fin grid0.N, win0_5.index t = ![0, t.val / 24])
theorem index0_6 : ∀ t : Fin cfg0.N, win0_6.index t = ![t.val % 24, t.val / 24] :=
  (by decide +kernel : ∀ t : Fin grid0.N, win0_6.index t = ![t.val % 24, t.val / 24])
theorem index0_7 : ∀ t : Fin cfg0.N, win0_7.index t = ![t.val / 24, t.val % 24] :=
  (by decide +kernel : ∀ t : Fin grid0.N, win0_7.index t = ![t.val / 24, t.val % 24])
theorem index0_8 : ∀ t : Fin cfg0.N, win0_8.index t = ![0, t.val / 24] :=
  (by decide +kernel : ∀ t : Fin grid0.N, win0_8.index t = ![0, t.val / 24])

theorem row_lt (t : Fin cfg0.N) : t.val / 24 < 8 := by
  have ht : t.val < 192 := Nat.lt_of_lt_of_eq t.isLt N_0
  omega

/-- The gate weights' codes: their columns, as rows. -/
theorem iblk0_at (c : Dev nD) (t : Fin cfg0.N) (o : Fin 512) (k : Fin 4096) :
    (iblk m c 0 t : Vec Ideal S512x4096 .fp8e4m3) (ix2 o k)
      = (m ((c : Thread nD τ).loc main_arg0) : Vec Ideal S4096x24576 .fp8e4m3) (ix2 k ⟨t.val % 24 * 512 + o, by omega⟩) := by
  blk_ext! [iblk, V, index0_0]

/-- The up weights' codes. -/
theorem iblk1_at (c : Dev nD) (t : Fin cfg0.N) (o : Fin 512) (k : Fin 4096) :
    (iblk m c 1 t : Vec Ideal S512x4096 .fp8e4m3) (ix2 o k)
      = (m ((c : Thread nD τ).loc main_arg0) : Vec Ideal S4096x24576 .fp8e4m3) (ix2 k ⟨(t.val % 24 + 24) * 512 + o, by omega⟩) := by
  blk_ext! [iblk, V, index0_1]

/-- The gate weights' scales, the same for every lane. -/
theorem iblk2_at (c : Dev nD) (t : Fin cfg0.N) (p : Fin 4) (g : Fin 32) (l : Fin 128) :
    (iblk m c 2 t : Vec Ideal S4x32x128 .f32) (ix3 p g l)
      = (m ((c : Thread nD τ).loc main_arg1) : Vec Ideal S32x192 .f32) (ix2 g ⟨t.val % 24 * 4 + p, by omega⟩) := by
  blk_ext! [iblk, V, index0_2]

/-- The up weights' scales. -/
theorem iblk3_at (c : Dev nD) (t : Fin cfg0.N) (p : Fin 4) (g : Fin 32) (l : Fin 128) :
    (iblk m c 3 t : Vec Ideal S4x32x128 .f32) (ix3 p g l)
      = (m ((c : Thread nD τ).loc main_arg1) : Vec Ideal S32x192 .f32) (ix2 g ⟨(t.val % 24 + 24) * 4 + p, by omega⟩) := by
  blk_ext! [iblk, V, index0_3]

/-- The tokens' codes. -/
theorem iblk4_at (c : Dev nD) (t : Fin cfg0.N) (k : Fin 4096) (j : Fin 1024) :
    (iblk m c 4 t : Vec Ideal S4096x1024 .fp8e4m3) (ix2 k j)
      = (m ((c : Thread nD τ).loc main_arg2) : Vec Ideal S4096x8192 .fp8e4m3)
          (ix2 k ⟨t.val / 24 * 1024 + j, by have := row_lt t; omega⟩) := by
  rw [← V_main_arg2 m c]
  blk_ext [iblk, index0_4]

/-- The tokens' scales. -/
theorem iblk5_at (c : Dev nD) (t : Fin cfg0.N) (g : Fin 32) (j : Fin 1024) :
    (iblk m c 5 t : Vec Ideal S32x1024 .f32) (ix2 g j)
      = (m ((c : Thread nD τ).loc main_arg3) : Vec Ideal S32x8192 .f32)
          (ix2 g ⟨t.val / 24 * 1024 + j, by have := row_lt t; omega⟩) := by
  rw [← V_main_arg3 m c]
  blk_ext [iblk, index0_5]

/-! ## The hidden values of a point's block are the hidden values of the whole at its place -/

theorem prod_shift {w : Vec Ideal (Sh2 4096 24576) .fp8e4m3} {ws : Vec Ideal (Sh2 32 192) .f32}
    {a : Vec Ideal (Sh2 4096 8192) .fp8e4m3} {xs : Vec Ideal (Sh2 32 8192) .f32}
    {x0 : Vec Ideal S512x4096 .fp8e4m3} {x2 : Vec Ideal S4x32x128 .f32} {x4 : Vec Ideal S4096x1024 .fp8e4m3} {x5 : Vec Ideal S32x1024 .f32}
    {J I : ℕ} (hJ : J < 48) (hI : I < 8)
    (h0 : ∀ (o : Fin 512) (k : Fin 4096), x0 (ix2 o k) = w (ix2 k ⟨J * 512 + o, by omega⟩))
    (h2 : ∀ (p : Fin 4) (g : Fin 32) (l : Fin 128), x2 (ix3 p g l) = ws (ix2 g ⟨J * 4 + p, by omega⟩))
    (h4 : ∀ (k : Fin 4096) (j : Fin 1024), x4 (ix2 k j) = a (ix2 k ⟨I * 1024 + j, by omega⟩))
    (h5 : ∀ (g : Fin 32) (j : Fin 1024), x5 (ix2 g j) = xs (ix2 g ⟨I * 1024 + j, by omega⟩))
    {r c : ℕ} (hr : r < 512) (hc : c < 1024) :
    prodAt x0 x2 x4 x5 r c = prodOf w ws a xs (J * 512 + r) (I * 1024 + c) := by
  unfold prodAt prodOf
  refine Finset.sum_congr rfl fun g hg => ?_
  have hg := Finset.mem_range.1 hg
  congr 1
  · refine Finset.sum_congr rfl fun k hk => ?_
    have hk := Finset.mem_range.1 hk
    congr 1
    · rw [at2_of_lt _ hr (show 128 * g + k < 4096 by omega),
        at2_of_lt _ (show 128 * g + k < 4096 by omega) (show J * 512 + r < 24576 by omega)]
      exact h0 ⟨r, hr⟩ ⟨128 * g + k, by omega⟩
    · rw [at2_of_lt _ (show 128 * g + k < 4096 by omega) hc,
        at2_of_lt _ (show 128 * g + k < 4096 by omega) (show I * 1024 + c < 8192 by omega)]
      exact h4 ⟨128 * g + k, by omega⟩ ⟨c, hc⟩
  · congr 1
    · rw [at2_of_lt _ hg hc, at2_of_lt _ hg (show I * 1024 + c < 8192 by omega)]
      exact h5 ⟨g, hg⟩ ⟨c, hc⟩
    · have ho : (J * 512 + r) / 128 = J * 4 + r / 128 := by omega
      rw [ho, at2_of_lt _ hg (show J * 4 + r / 128 < 192 by omega), at3_of_lt _ (show r / 128 < 4 by omega) hg (show c % 128 < 128 by omega)]
      exact h2 ⟨r / 128, by omega⟩ ⟨g, hg⟩ ⟨c % 128, by omega⟩

/-- The hidden values, in the arguments. -/
abbrev hid (c : Dev nD) : ℕ → ℕ → EReal :=
  hidOf (m ((c : Thread nD τ).loc main_arg0)) (m ((c : Thread nD τ).loc main_arg1)) (m ((c : Thread nD τ).loc main_arg2))
    (m ((c : Thread nD τ).loc main_arg3))

theorem hidden_shift (d : Dev nD) (t : Fin cfg0.N) (r c : ℕ) (hr : r < 512) (hc : c < 1024) :
    hidden (iblk m d 0 t) (iblk m d 1 t) (iblk m d 2 t) (iblk m d 3 t) (iblk m d 4 t) (iblk m d 5 t) r c
      = hid m d (512 * (t.val % 24) + r) (1024 * (t.val / 24) + c) := by
  have hI := row_lt t
  have e0 := prod_shift (J := t.val % 24) (by omega) hI (iblk0_at m d t) (iblk2_at m d t) (iblk4_at m d t) (iblk5_at m d t) hr hc
  have e1 := prod_shift (J := t.val % 24 + 24) (by omega) hI (iblk1_at m d t) (iblk3_at m d t) (iblk4_at m d t) (iblk5_at m d t) hr hc
  unfold hidden hid hidOf
  rw [e0, e1, Nat.mul_comm 512, Nat.mul_comm 1024, show 12288 + (t.val % 24 * 512 + r) = (t.val % 24 + 24) * 512 + r by omega]

end Cert.GateUpIdeal.Gen

end
-- ==== Proof.GateUp.Codes.lean ====
module

public import proofs.«01_k».proof.Proof.GateUp.Value
public import proofs.«01_k».proof.Proof.Common.Loads
public import proofs.«01_k».proof.Proof.Common.Hidden
public import Idealize.ShloMosaic.Lib.Tactic.RunNames

@[expose] public section

set_option maxRecDepth 200000

noncomputable section

namespace Cert.GateUpIdeal.Gen

open Idealize.ShloMosaic Idealize.ShloMosaic.TcCoe Idealize.SL.Sem Cert.Common
open scoped BigOperators

set_option maxHeartbeats 4000000 in
theorem gate_codes (c : Dev nD) (i : grid0.Coords) (arg2 : Memref sig .tc .vmem S512x4096 .fp8e4m3) (harg2 : arg2.IsWhole) (arg3 : Memref sig .tc .vmem S512x4096 .fp8e4m3) (harg3 : arg3.IsWhole) (arg4 : Memref sig .tc .vmem S4x32x128 .f32) (harg4 : arg4.IsWhole) (arg5 : Memref sig .tc .vmem S4x32x128 .f32) (harg5 : arg5.IsWhole) (arg6 : Memref sig .tc .vmem S4096x1024 .fp8e4m3) (harg6 : arg6.IsWhole) (arg7 : Memref sig .tc .vmem S32x1024 .f32) (harg7 : arg7.IsWhole) (arg8 : Memref sig .tc .vmem S512x1024 .fp8e4m3) (harg8 : arg8.IsWhole) (arg9 : Memref sig .tc .vmem S1024x512 .fp8e4m3) (harg9 : arg9.IsWhole) (arg10 : Memref sig .tc .vmem S96x1024 .f32) (harg10 : arg10.IsWhole) (arg11 : Memref sig .tc .vmem S32x256 .f32) (harg11 : arg11.IsWhole) (arg12 : Memref sig .tc .vmem S32x256 .f32) (harg12 : arg12.IsWhole)
    (x0 x1 : Vec Ideal S512x4096 .fp8e4m3) (x2 x3 : Vec Ideal S4x32x128 .f32) (x4 : Vec Ideal S4096x1024 .fp8e4m3) (x5 : Vec Ideal S32x1024 .f32) (x8 : Vec Ideal S96x1024 .f32) :
    Stores (codes (hidden x0 x1 x2 x3 x4 x5)) (gateRun (F := Ideal) c i arg2 harg2 arg3 harg3 arg4 harg4 arg5 harg5 arg6 harg6 arg7 harg7 arg8 harg8 arg9 harg9 arg10 harg10 arg11 harg11 arg12 harg12 x0 x1 x2 x3 x4 x5 x8).2.1 := by
  iterate 16
    refine Stores.codes (by rfl) ?_ ?_
    ·
      sl_unfold_run_values
      refine hidden_blk (by rfl) (by rfl) ?_ ?_
      · iterate 31 refine Row.step (by rfl) (by rfl) ?_ leaf_w leaf_a (leaf_s scales_blk)
        exact Row.first leaf_w leaf_a (leaf_s scales_blk)
      · iterate 31 refine Row.step (by rfl) (by rfl) ?_ leaf_w leaf_a (leaf_s scales_blk)
        exact Row.first leaf_w leaf_a (leaf_s scales_blk)
  exact Stores.nil

end Cert.GateUpIdeal.Gen

end
-- ==== Proof.GateUp.CodesT.lean ====
module

public import proofs.«01_k».proof.Proof.GateUp.Value
public import proofs.«01_k».proof.Proof.Common.Loads
public import proofs.«01_k».proof.Proof.Common.Hidden
public import Idealize.ShloMosaic.Lib.Tactic.RunNames

@[expose] public section

set_option maxRecDepth 200000

noncomputable section

namespace Cert.GateUpIdeal.Gen

open Idealize.ShloMosaic Idealize.ShloMosaic.TcCoe Idealize.SL.Sem Cert.Common
open scoped BigOperators

set_option maxHeartbeats 4000000 in
theorem gate_codesT (c : Dev nD) (i : grid0.Coords) (arg2 : Memref sig .tc .vmem S512x4096 .fp8e4m3) (harg2 : arg2.IsWhole) (arg3 : Memref sig .tc .vmem S512x4096 .fp8e4m3) (harg3 : arg3.IsWhole) (arg4 : Memref sig .tc .vmem S4x32x128 .f32) (harg4 : arg4.IsWhole) (arg5 : Memref sig .tc .vmem S4x32x128 .f32) (harg5 : arg5.IsWhole) (arg6 : Memref sig .tc .vmem S4096x1024 .fp8e4m3) (harg6 : arg6.IsWhole) (arg7 : Memref sig .tc .vmem S32x1024 .f32) (harg7 : arg7.IsWhole) (arg8 : Memref sig .tc .vmem S512x1024 .fp8e4m3) (harg8 : arg8.IsWhole) (arg9 : Memref sig .tc .vmem S1024x512 .fp8e4m3) (harg9 : arg9.IsWhole) (arg10 : Memref sig .tc .vmem S96x1024 .f32) (harg10 : arg10.IsWhole) (arg11 : Memref sig .tc .vmem S32x256 .f32) (harg11 : arg11.IsWhole) (arg12 : Memref sig .tc .vmem S32x256 .f32) (harg12 : arg12.IsWhole)
    (x0 x1 : Vec Ideal S512x4096 .fp8e4m3) (x2 x3 : Vec Ideal S4x32x128 .f32) (x4 : Vec Ideal S4096x1024 .fp8e4m3) (x5 : Vec Ideal S32x1024 .f32) (x8 : Vec Ideal S96x1024 .f32) :
    Stores (codesT (hidden x0 x1 x2 x3 x4 x5)) (gateRun (F := Ideal) c i arg2 harg2 arg3 harg3 arg4 harg4 arg5 harg5 arg6 harg6 arg7 harg7 arg8 harg8 arg9 harg9 arg10 harg10 arg11 harg11 arg12 harg12 x0 x1 x2 x3 x4 x5 x8).1 := by
  iterate 16
    refine Stores.codesT (by rfl) ?_ ?_
    ·
      sl_unfold_run_values
      refine hidden_blk (by rfl) (by rfl) ?_ ?_
      · iterate 31 refine Row.step (by rfl) (by rfl) ?_ leaf_w leaf_a (leaf_s scales_blk)
        exact Row.first leaf_w leaf_a (leaf_s scales_blk)
      · iterate 31 refine Row.step (by rfl) (by rfl) ?_ leaf_w leaf_a (leaf_s scales_blk)
        exact Row.first leaf_w leaf_a (leaf_s scales_blk)
  exact Stores.nil

end Cert.GateUpIdeal.Gen

end
-- ==== Proof.GateUp.ScalesT.lean ====
module

public import proofs.«01_k».proof.Proof.GateUp.Value
public import proofs.«01_k».proof.Proof.Common.Loads
public import proofs.«01_k».proof.Proof.Common.Hidden
public import Idealize.ShloMosaic.Lib.Tactic.RunNames

@[expose] public section

set_option maxRecDepth 200000

noncomputable section

namespace Cert.GateUpIdeal.Gen

open Idealize.ShloMosaic Idealize.ShloMosaic.TcCoe Idealize.SL.Sem Cert.Common
open scoped BigOperators

/-- The pieces store the rows of scales from row `q` on, at the corners of the list. -/
structure RowsOf (f : ℕ → ℕ → EReal) (q : ℕ) (T : List (ℕ × ℕ)) (L : List (View.Piece (Elt Ideal) S96x1024 .f32)) : Prop where
  stores : Stores (s := S96x1024) (e := .f32) (scalesT f q) L
  rows : ∀ p ∈ L, ∀ y ∈ p.1.set, q ≤ (y 0).val ∧ (y 0).val < q + 4
  cover : ∀ t ∈ T, ∀ y : S96x1024.Idx, (y 0).val = q + t.1 → t.2 ≤ (y 1).val → (y 1).val < t.2 + 256 → ∃ p ∈ L, y ∈ p.1.set

theorem RowsOf.nil {f : ℕ → ℕ → EReal} {q : ℕ} : RowsOf f q [] [] :=
  ⟨Stores.nil, fun p hp => absurd hp List.not_mem_nil, fun p hp => absurd hp List.not_mem_nil⟩

theorem RowsOf.cons {f : ℕ → ℕ → EReal} {R C : ℕ} {h : FVec Ideal (Sh2 128 256) .f32} {q b : ℕ} {off : Fin 2 → ℕ}
    {inb : ∀ a, off a + (Sh2 1 256).size a ≤ (Sh2 96 1024).size a} {T : List (ℕ × ℕ)}
    {L : List (View.Piece (Elt Ideal) (Sh2 96 1024) .f32)} {hr hc hi hc' hb hr' hw}
    (ho : off = ![q + b, C]) (hR : R = 128 * b) (h4 : b < 4) (hh : IsBlk f R C h) (hL : RowsOf f q T L) :
    RowsOf f q ((b, C) :: T) ((⟨Rect.unit (s := Sh2 96 1024) off (Sh2 1 256).size inb,
        vPow (vE h (hr := hr) (hc := hc) (hi := hi) (hc' := hc') (hb := hb) (hr' := hr') (hw := hw))⟩
          : View.Piece (Elt Ideal) (Sh2 96 1024) .f32) :: L) := by
  refine ⟨Stores.scalesT ho hR hh hL.stores, ?_, ?_⟩
  · subst ho
    intro p hp y hy
    rcases List.mem_cons.1 hp with rfl | hp
    · have h0 := (Rect.mem_set_unit (inb := inb)).1 hy 0
      have h1 : q + b ≤ (y 0).val ∧ (y 0).val < q + b + 1 := h0
      omega
    · exact hL.rows p hp y hy
  · subst ho
    intro t ht y h0 h1 h2
    rcases List.mem_cons.1 ht with rfl | ht
    · refine ⟨_, List.mem_cons_self, (Rect.mem_set_unit (inb := inb)).2 fun a => ?_⟩
      match a with
      | ⟨0, _⟩ => exact (show q + b ≤ (y 0).val ∧ (y 0).val < q + b + 1 by simp only at h0; omega)
      | ⟨1, _⟩ => exact (show C ≤ (y 1).val ∧ (y 1).val < C + 256 from ⟨h1, h2⟩)
    · obtain ⟨p, hp, hy⟩ := hL.cover t ht y h0 h1 h2
      exact ⟨p, List.mem_cons_of_mem _ hp, hy⟩

/-- The corners of a point's rows of scales. -/
def corners : List (ℕ × ℕ) :=
  [(3, 768), (3, 512), (3, 256), (3, 0), (2, 768), (2, 512), (2, 256), (2, 0), (1, 768), (1, 512), (1, 256), (1, 0), (0, 768), (0, 512), (0, 256), (0, 0)]

/-- What the pieces leave in a block: the point's four rows of scales, and what was there in the others. -/
theorem RowsOf.read {f : ℕ → ℕ → EReal} {q : ℕ} {L : List (View.Piece (Elt Ideal) S96x1024 .f32)} (h : RowsOf f q corners L)
    {κ : Kind} {sp : Space} {v : View sig κ sp S96x1024 .f32} (g : v.ty.Contents (Elt Ideal)) (y : S96x1024.Idx) :
    v.read (Elt Ideal) (v.writes (Elt Ideal) g L) y
      = if q ≤ (y 0).val ∧ (y 0).val < q + 4 then scalesT f q y else v.read (Elt Ideal) g y := by
  split
  · rename_i hy
    refine View.read_writes_apply_of_pieces v g _ L h.stores y ?_
    have hy1 : (y 1).val < 1024 := (y 1).isLt
    have hm : ∀ (b c : Fin 4), (b.val, 256 * c.val) ∈ corners := by decide
    refine h.cover _ (hm ⟨(y 0).val - q, by omega⟩ ⟨(y 1).val / 256, by omega⟩) y ?_ ?_ ?_ <;> simp only <;> omega
  · rename_i hy
    exact View.read_writes_apply_of_forall_not_mem v g y L fun p hp hm => hy (h.rows p hp y hm)

set_option maxHeartbeats 4000000 in
theorem gate_scales (c : Dev nD) (i : grid0.Coords) (arg2 : Memref sig .tc .vmem S512x4096 .fp8e4m3) (harg2 : arg2.IsWhole) (arg3 : Memref sig .tc .vmem S512x4096 .fp8e4m3) (harg3 : arg3.IsWhole) (arg4 : Memref sig .tc .vmem S4x32x128 .f32) (harg4 : arg4.IsWhole) (arg5 : Memref sig .tc .vmem S4x32x128 .f32) (harg5 : arg5.IsWhole) (arg6 : Memref sig .tc .vmem S4096x1024 .fp8e4m3) (harg6 : arg6.IsWhole) (arg7 : Memref sig .tc .vmem S32x1024 .f32) (harg7 : arg7.IsWhole) (arg8 : Memref sig .tc .vmem S512x1024 .fp8e4m3) (harg8 : arg8.IsWhole) (arg9 : Memref sig .tc .vmem S1024x512 .fp8e4m3) (harg9 : arg9.IsWhole) (arg10 : Memref sig .tc .vmem S96x1024 .f32) (harg10 : arg10.IsWhole) (arg11 : Memref sig .tc .vmem S32x256 .f32) (harg11 : arg11.IsWhole) (arg12 : Memref sig .tc .vmem S32x256 .f32) (harg12 : arg12.IsWhole)
    (x0 x1 : Vec Ideal S512x4096 .fp8e4m3) (x2 x3 : Vec Ideal S4x32x128 .f32) (x4 : Vec Ideal S4096x1024 .fp8e4m3) (x5 : Vec Ideal S32x1024 .f32) (x8 : Vec Ideal S96x1024 .f32) :
    RowsOf (hidden x0 x1 x2 x3 x4 x5) (4 * (i 1).val) corners (gateRun (F := Ideal) c i arg2 harg2 arg3 harg3 arg4 harg4 arg5 harg5 arg6 harg6 arg7 harg7 arg8 harg8 arg9 harg9 arg10 harg10 arg11 harg11 arg12 harg12 x0 x1 x2 x3 x4 x5 x8).2.2.1 := by
  unfold corners
  refine RowsOf.cons (b := 3) (R := 384) (k0_off4_eq i 3) (by rfl) (by decide) ?_ ?_
  rotate_left
  refine RowsOf.cons (b := 3) (R := 384) (k0_off3_eq i 3) (by rfl) (by decide) ?_ ?_
  rotate_left
  refine RowsOf.cons (b := 3) (R := 384) (k0_off2_eq i 3) (by rfl) (by decide) ?_ ?_
  rotate_left
  refine RowsOf.cons (b := 3) (R := 384) (k0_off1_eq i 3) (by rfl) (by decide) ?_ ?_
  rotate_left
  refine RowsOf.cons (b := 2) (R := 256) (k0_off4_eq i 2) (by rfl) (by decide) ?_ ?_
  rotate_left
  refine RowsOf.cons (b := 2) (R := 256) (k0_off3_eq i 2) (by rfl) (by decide) ?_ ?_
  rotate_left
  refine RowsOf.cons (b := 2) (R := 256) (k0_off2_eq i 2) (by rfl) (by decide) ?_ ?_
  rotate_left
  refine RowsOf.cons (b := 2) (R := 256) (k0_off1_eq i 2) (by rfl) (by decide) ?_ ?_
  rotate_left
  refine RowsOf.cons (b := 1) (R := 128) (k0_off4_eq i 1) (by rfl) (by decide) ?_ ?_
  rotate_left
  refine RowsOf.cons (b := 1) (R := 128) (k0_off3_eq i 1) (by rfl) (by decide) ?_ ?_
  rotate_left
  refine RowsOf.cons (b := 1) (R := 128) (k0_off2_eq i 1) (by rfl) (by decide) ?_ ?_
  rotate_left
  refine RowsOf.cons (b := 1) (R := 128) (k0_off1_eq i 1) (by rfl) (by decide) ?_ ?_
  rotate_left
  refine RowsOf.cons (b := 0) (R := 0) (k0_off4_eq i 0) (by rfl) (by decide) ?_ ?_
  rotate_left
  refine RowsOf.cons (b := 0) (R := 0) (k0_off3_eq i 0) (by rfl) (by decide) ?_ ?_
  rotate_left
  refine RowsOf.cons (b := 0) (R := 0) (k0_off2_eq i 0) (by rfl) (by decide) ?_ ?_
  rotate_left
  refine RowsOf.cons (b := 0) (R := 0) (k0_off1_eq i 0) (by rfl) (by decide) ?_ ?_
  rotate_left
  exact RowsOf.nil
  all_goals
      sl_unfold_run_values
      refine hidden_blk (by rfl) (by rfl) ?_ ?_
      · iterate 31 refine Row.step (by rfl) (by rfl) ?_ leaf_w leaf_a (leaf_s scales_blk)
        exact Row.first leaf_w leaf_a (leaf_s scales_blk)
      · iterate 31 refine Row.step (by rfl) (by rfl) ?_ leaf_w leaf_a (leaf_s scales_blk)
        exact Row.first leaf_w leaf_a (leaf_s scales_blk)

end Cert.GateUpIdeal.Gen

end
-- ==== Proof.GateUp.Final.lean ====
module

public import proofs.«01_k».proof.Proof.GateUp.Body
public import proofs.«01_k».proof.Proof.GateUp.Blocks
public import proofs.«01_k».proof.Proof.GateUp.Codes
public import proofs.«01_k».proof.Proof.GateUp.CodesT
public import proofs.«01_k».proof.Proof.GateUp.ScalesT

@[expose] public section

set_option maxRecDepth 16384

noncomputable section

namespace Cert.GateUpIdeal.Rel

open Idealize.ShloMosaic Idealize.ShloMosaic.TcCoe Idealize.SL.Sem Cert.Common
open Idealize.ShloMosaic.Pipeline (Dat Cfg Window cellOf)
open Cert.GateUpIdeal.Gen hiding frame_of
open scoped BigOperators

variable (m : (ℓ : Loc nD τ sig) → Buf (Elt Ideal) ℓ)

/-! ## What the body leaves, over the extended reals -/

/-- After a point, the tiles of codes hold the codes of the point's hidden values, and the block of scales holds the scales
    of the hidden columns up to the point's last. -/
def told (c : Dev nD) : Says Ideal := fun w t => match w with
  | ⟨6, _⟩ => fun (X : Vec Ideal S512x1024 .fp8e4m3) => ∀ y : S512x1024.Idx,
      X y = blockCode (hid m c) (512 * (t.val % 24) + (y 0).val) (1024 * (t.val / 24) + (y 1).val)
  | ⟨7, _⟩ => fun (X : Vec Ideal S1024x512 .fp8e4m3) => ∀ y : S1024x512.Idx,
      X y = blockCode (hid m c) (512 * (t.val % 24) + (y 1).val) (1024 * (t.val / 24) + (y 0).val)
  | ⟨8, _⟩ => fun (X : Vec Ideal S96x1024 .f32) => ∀ y : S96x1024.Idx, (y 0).val < 4 * (t.val % 24 + 1) →
      X y = scaleOf (hid m c) (128 * (y 0).val) (1024 * (t.val / 24) + (y 1).val)
  | _ => fun _ => True

theorem coord1 (t : Fin cfg0.N) : (grid0.coords t 1).val = t.val % 24 :=
  (Pipeline.Grid.coords_val t 1 (by decide) rfl).trans (congrArg (· % 24) (Nat.div_one t.val))

theorem says6 (c : Dev nD) (t : Fin cfg0.N) (x8) (f : Buf (Elt Ideal) ((ms0_6 t).view.loc (c : Thread nD τ))) :
    told m c 6 t ((ms0_6 t).view.read (Elt Ideal) ((ms0_6 t).view.writes (Elt Ideal) f (runAt m c t x8).1)) := by
  intro y
  refine (View.read_writes_apply_of_pieces (ms0_6 t).view f _ (runAt m c t x8).1
    (gate_codesT c _ _ _ _ _ _ _ _ _ _ _ _ _ _ _ _ _ _ _ _ _ _ _ (iblk m c 0 t) (iblk m c 1 t) (iblk m c 2 t) (iblk m c 3 t) (iblk m c 4 t) (iblk m c 5 t) x8) y
    (View.cover_of_tiled (s := S512x1024) (runAt m c t x8).1 S128x256.size (by rfl) y)).trans ?_
  exact blockCode_shift (hidden_shift m c t) (y 0).isLt (y 1).isLt

theorem says7 (c : Dev nD) (t : Fin cfg0.N) (x8) (f : Buf (Elt Ideal) ((ms0_7 t).view.loc (c : Thread nD τ))) :
    told m c 7 t ((ms0_7 t).view.read (Elt Ideal) ((ms0_7 t).view.writes (Elt Ideal) f (runAt m c t x8).2.1)) := by
  intro y
  refine (View.read_writes_apply_of_pieces (ms0_7 t).view f _ (runAt m c t x8).2.1
    (gate_codes c _ _ _ _ _ _ _ _ _ _ _ _ _ _ _ _ _ _ _ _ _ _ _ (iblk m c 0 t) (iblk m c 1 t) (iblk m c 2 t) (iblk m c 3 t) (iblk m c 4 t) (iblk m c 5 t) x8) y
    (View.cover_of_tiled (s := S1024x512) (runAt m c t x8).2.1 S256x128.size (by rfl) y)).trans ?_
  exact blockCode_shift (hidden_shift m c t) (y 1).isLt (y 0).isLt

/-- What is found in the block of scales past the first point of a row of the grid: the scales of the points before. -/
theorem found8 (c : Dev nD) (t : Fin cfg0.N) (Y : Vec Ideal S96x1024 .f32)
    (hY : ((dats m 0 c).toRRel held0 (told m c)).Finds 8 t Y) (y : S96x1024.Idx) (hy : (y 0).val < 4 * (t.val % 24)) :
    Y y = scaleOf (hid m c) (128 * (y 0).val) (1024 * (t.val / 24) + (y 1).val) := by
  have h0 : t.val ≠ 0 := by rintro h; rw [h] at hy; omega
  have hf : ¬ (cfg0.win 8).flush ⟨t.val - 1, Nat.lt_of_le_of_lt (Nat.sub_le _ _) t.isLt⟩ = true := by
    rw [flush0_8]; simp only; omega
  have hl := ((((dats m 0 c).toRRel held0 (told m c)).finds_of_pos rfl h0 Y).1 hY).resolve_left hf
  have hs : told m c 8 ⟨t.val - 1, Nat.lt_of_le_of_lt (Nat.sub_le _ _) t.isLt⟩ Y := (dats m 0 c).toRRel_leaves (by rfl) hl
  have e1 : (t.val - 1) / 24 = t.val / 24 := by omega
  have e2 : 4 * ((t.val - 1) % 24 + 1) = 4 * (t.val % 24) := by omega
  have := hs y (e2.symm ▸ hy)
  rw [← e1]
  exact this

theorem says8 (c : Dev nD) (t : Fin cfg0.N) (Y) (hY : ((dats m 0 c).toRRel held0 (told m c)).Finds 8 t Y) :
    told m c 8 t ((ms0_8 t).view.read (Elt Ideal) ((ms0_8 t).view.writes (Elt Ideal) ((hs8 t).unread Y) (runAt m c t Y).2.2.1)) := by
  intro y hy
  refine ((gate_scales c (grid0.coords t) _ _ _ _ _ _ _ _ _ _ _ _ _ _ _ _ _ _ _ _ _ _ (iblk m c 0 t) (iblk m c 1 t) (iblk m c 2 t) (iblk m c 3 t) (iblk m c 4 t) (iblk m c 5 t) Y).read ((hs8 t).unread Y) y).trans ?_
  rw [coord1]
  split
  · rename_i h
    have e := scaleOf_shift (hidden_shift m c t) (r := 128 * ((y 0).val - 4 * (t.val % 24))) (by omega) (y 1).isLt
    refine e.trans (congrArg (fun r => scaleOf (hid m c) r _) ?_)
    omega
  · rename_i h
    rw [(hs8 t).read_unread]
    exact found8 m c t Y hY y (by omega)

theorem keeps (c : Dev nD) : Keeps m (told m c) c := ⟨says6 m c, says7 m c, says8 m c⟩

/-! ## The three results, in the arguments -/

section
variable (c : Dev nD) (rd : Pipeline.RDat τ (Elt Ideal) Unit ℕ (UR sig nD τ) ℕ cfg0 c)
  (after : (w' : Fin cfg0.W) → Fin cfg0.N → (cfg0.win w').block.Idx → Elt Ideal (cfg0.win w').elt)

theorem final6 (h : ∀ t, (cfg0.win 6).flush t = true → told m c 6 t (after 6 t)) :
    (rd.withAfter after).arrAt 6 cfg0.N = codesTOf (hid m c) := by
  refine (rd.withAfter after).arrAt_eq_of_covers 6 _ (by decide +kernel) fun t hf y => ?_
  blk_simp
  refine (h t hf y).trans ?_
  unfold codesTOf
  exact congr (congrArg (blockCode (hid m c)) (by blk_simp [index0_6]; omega)) (by blk_simp [index0_6]; omega)

theorem final7 (h : ∀ t, (cfg0.win 7).flush t = true → told m c 7 t (after 7 t)) :
    (rd.withAfter after).arrAt 7 cfg0.N = codesOf (hid m c) := by
  refine (rd.withAfter after).arrAt_eq_of_covers 7 _ (by decide +kernel) fun t hf y => ?_
  blk_simp
  refine (h t hf y).trans ?_
  unfold codesOf
  exact congr (congrArg (blockCode (hid m c)) (by blk_simp [index0_7]; omega)) (by blk_simp [index0_7]; omega)

theorem final8 (h : ∀ t, (cfg0.win 8).flush t = true → told m c 8 t (after 8 t)) :
    (rd.withAfter after).arrAt 8 cfg0.N = scalesOf (hid m c) := by
  refine (rd.withAfter after).arrAt_eq_of_covers 8 _ (by decide +kernel) fun t hf y => ?_
  blk_simp
  have hy : (y 0).val < 96 := (y 0).isLt
  have h23 := (flush0_8 t).1 hf
  refine (h t hf y (by omega)).trans ?_
  unfold scalesOf
  exact congr (congrArg (scaleOf (hid m c)) (by blk_simp [index0_8])) (by blk_simp [index0_8]; omega)

end

variable (ρ : Dev nD → PrngReg)

/-- The run: the three results as stated of the arguments. -/
theorem run_values : θ_run defs (onTc (τ := τ) (main (F := Ideal))) (s₀ m ρ) (fun r => ∀ c : Dev nD,
      r.2.mem ((cfg0.spec 6).arr.view.loc (c.tc : Thread nD τ)) = codesTOf (hid m c)
      ∧ r.2.mem ((cfg0.spec 7).arr.view.loc (c.tc : Thread nD τ)) = codesOf (hid m c)
      ∧ r.2.mem ((cfg0.spec 8).arr.view.loc (c.tc : Thread nD τ)) = scalesOf (hid m c)) := by
  refine (θ_run _ _ _).mono (fun r h c => ?_) (run_main m ρ fun c => keeps m c)
  obtain ⟨after, hL, hA⟩ := h.exists_exact c
  exact ⟨(hA 6).trans (final6 m c _ after fun t hf => (dats m 0 c).toRRel_leaves (by rfl) (hL 6 t hf)),
    (hA 7).trans (final7 m c _ after fun t hf => (dats m 0 c).toRRel_leaves (by rfl) (hL 7 t hf)),
    (hA 8).trans (final8 m c _ after fun t hf => (dats m 0 c).toRRel_leaves (by rfl) (hL 8 t hf))⟩

end Cert.GateUpIdeal.Rel

end
-- ==== Proof.Common.Expo.lean ====
module

public import proofs.«01_k».proof.Proof.Common.Quant

@[expose] public section

set_option maxRecDepth 16384

noncomputable section

namespace Cert.Common

open Idealize.ShloMosaic
open scoped BigOperators

/-! ## The exponent is the greatest power of two at most the ratio, plus one -/

/-- Adding up one-bit values counts those that are one. -/
theorem count_card {α : Type} [DecidableEq α] (s : Finset α) (f : α → BitVec 1) :
    (s.fold IntOp.addi 0#32 fun x => (f x).setWidth 32) = BitVec.ofNat 32 (s.filter fun x => f x = 1#1).card := by
  induction s using Finset.induction_on with
  | empty => simp
  | insert a s ha ih =>
    rw [Finset.fold_insert ha, ih, Finset.filter_insert]
    have h : f a = 1#1 ∨ f a = 0#1 := (by decide : ∀ b : BitVec 1, b = 1#1 ∨ b = 0#1) (f a)
    rcases h with h | h
    · rw [if_pos h, Finset.card_insert_of_notMem (by simp [ha]), h]
      show (1#1).setWidth 32 + BitVec.ofNat 32 _ = _
      rw [Nat.add_comm, BitVec.ofNat_add]
      rfl
    · rw [if_neg (by rw [h]; decide), h]
      show (0#1).setWidth 32 + BitVec.ofNat 32 _ = _
      simp

/-- A set of numbers below `n` that holds every number below a number it holds is an initial segment. -/
theorem mem_lower {n : ℕ} (s : Finset (Fin n)) (h : ∀ i j : Fin n, i ≤ j → j ∈ s → i ∈ s) (i : Fin n) : i ∈ s ↔ i.val < s.card := by
  constructor
  · intro hi
    have := Finset.card_le_card (s := Finset.Iic i) (t := s) fun j hj => h j i (Finset.mem_Iic.1 hj) hi
    rw [Fin.card_Iic] at this
    omega
  · intro hi
    by_contra hn
    have := Finset.card_le_card (s := s) (t := Finset.Iio i) fun j hj =>
      Finset.mem_Iio.2 (lt_of_not_ge fun hji => hn (h i j hji hj))
    rw [Fin.card_Iio] at this
    omega

/-- Of a ratio, the greatest `n + 1` with `2^n` at most the ratio, for `n` from -149 to 127; -149 if there is none. -/
def topOf (r : EReal) : EReal :=
  Finset.univ.fold (FloatOps.maximumf (F := Ideal) (φ := .f32)) (FloatOps.ofBits (F := Ideal) .f32 0xFF800000#32)
    fun n : Fin 277 => Scalar.select (FloatOps.cmpf (F := Ideal) (φ := .f32) .oge r (Ideal.exp2 (((n.val : ℝ) - 149 : ℝ) : EReal)))
      (((n.val : ℝ) - 148 : ℝ) : EReal) ((-149 : ℝ) : EReal)

theorem exp2_mono {i j : ℕ} (h : i ≤ j) : Ideal.exp2 (((i : ℝ) - 149 : ℝ) : EReal) ≤ Ideal.exp2 (((j : ℝ) - 149 : ℝ) : EReal) := by
  show ((((2 : ℝ) ^ ((i : ℝ) - 149) : ℝ)) : EReal) ≤ ((((2 : ℝ) ^ ((j : ℝ) - 149) : ℝ)) : EReal)
  refine EReal.coe_le_coe_iff.2 (Real.rpow_le_rpow_of_exponent_le (by norm_num) ?_)
  have : (i : ℝ) ≤ j := by exact_mod_cast h
  linarith

theorem oge_iff (r x : EReal) : FloatOps.cmpf (F := Ideal) (φ := .f32) .oge r x = 1#1 ↔ x ≤ r := by
  show BitVec.ofBool (decide (x ≤ r)) = 1#1 ↔ _
  by_cases h : x ≤ r <;> simp [h]

/-- The counted exponent is the greatest one. -/
theorem top_count (r : EReal) : topOf r = (((IntOp.subi (Finset.univ.fold IntOp.addi 0#32 fun n : Fin 277 =>
      (FloatOps.cmpf (F := Ideal) (φ := .f32) .oge r (Ideal.exp2 (((n.val : ℝ) - 149 : ℝ) : EReal))).setWidth 32) 149#32).toInt : ℝ) : EReal) := by
  rw [count_card]
  have hS := mem_lower (Finset.univ.filter fun n : Fin 277 =>
      FloatOps.cmpf (F := Ideal) (φ := .f32) .oge r (Ideal.exp2 (((n.val : ℝ) - 149 : ℝ) : EReal)) = 1#1) (fun i j hij hj => by
    rw [Finset.mem_filter, oge_iff] at hj ⊢
    exact ⟨Finset.mem_univ _, (exp2_mono hij).trans hj.2⟩)
  have hN := Finset.card_le_univ (Finset.univ.filter fun n : Fin 277 =>
      FloatOps.cmpf (F := Ideal) (φ := .f32) .oge r (Ideal.exp2 (((n.val : ℝ) - 149 : ℝ) : EReal)) = 1#1)
  simp only [Finset.mem_filter, Finset.mem_univ, true_and] at hS
  generalize (Finset.univ.filter fun n : Fin 277 =>
      FloatOps.cmpf (F := Ideal) (φ := .f32) .oge r (Ideal.exp2 (((n.val : ℝ) - 149 : ℝ) : EReal)) = 1#1).card = N at hS hN ⊢
  rw [Fintype.card_fin] at hN
  have hI : (IntOp.subi (BitVec.ofNat 32 N) 149#32).toInt = (N : ℤ) - 149 := by
    show (BitVec.ofNat 32 N - 149#32).toInt = _
    rw [BitVec.toInt_sub, BitVec.toInt_ofNat', BitVec.toInt_ofNat']
    simp only [Int.bmod_def]
    omega
  rw [hI]
  unfold topOf
  have hv : ∀ n : Fin 277, Scalar.select (FloatOps.cmpf (F := Ideal) (φ := .f32) .oge r (Ideal.exp2 (((n.val : ℝ) - 149 : ℝ) : EReal)))
      (((n.val : ℝ) - 148 : ℝ) : EReal) ((-149 : ℝ) : EReal) = if n.val < N then (((n.val : ℝ) - 148 : ℝ) : EReal) else ((-149 : ℝ) : EReal) := fun n => by
    by_cases h : n.val < N
    · rw [if_pos h, (hS n).2 h]; rfl
    · rw [if_neg h, (show _ = 0#1 from ((by decide : ∀ b : BitVec 1, b = 1#1 ∨ b = 0#1) _).resolve_left fun h' => h ((hS n).1 h'))]; rfl
  simp only [hv]
  have hb : FloatOps.ofBits (F := Ideal) .f32 0xFF800000#32 = (⊥ : EReal) := by
    show Ideal.ieee 8 23 0xFF800000#32 = _
    unfold Ideal.ieee
    simp
  show Finset.univ.fold max _ _ = _
  rw [hb]
  refine le_antisymm ((Finset.fold_max_le _).2 ⟨bot_le, fun n _ => ?_⟩) ((Finset.le_fold_max _).2 (Or.inr ?_))
  · split
    · rename_i h
      have : (n.val : ℝ) + 1 ≤ N := by exact_mod_cast h
      exact EReal.coe_le_coe_iff.2 (by push_cast; linarith)
    · exact EReal.coe_le_coe_iff.2 (by push_cast; have : (0 : ℝ) ≤ N := Nat.cast_nonneg N; linarith)
  · rcases Nat.eq_zero_or_pos N with h0 | h0
    · refine ⟨⟨0, by omega⟩, Finset.mem_univ _, ?_⟩
      rw [if_neg (by simp only; omega), h0]
      exact EReal.coe_le_coe_iff.2 (by push_cast; linarith)
    · refine ⟨⟨N - 1, by omega⟩, Finset.mem_univ _, ?_⟩
      rw [if_pos (by simp only; omega)]
      have : ((N - 1 : ℕ) : ℝ) = N - 1 := by rw [Nat.cast_sub h0, Nat.cast_one]
      exact EReal.coe_le_coe_iff.2 (by push_cast [this]; linarith)

/-- The exponent as the reference has it. -/
def topExpo (a : EReal) : EReal :=
  Scalar.select (IntOp.andi (IntOp.andi (FloatOps.cmpf (F := Ideal) (φ := .f32) .ogt (ratioOf a) (FloatOps.ofBits (F := Ideal) .f32 0x00000000#32))
      (FloatOps.cmpf (F := Ideal) (φ := .f32) .olt (ratioOf a) (FloatOps.ofBits (F := Ideal) .f32 0x7F800000#32)))
      (FloatOps.cmpf (F := Ideal) (φ := .f32) .one a (FloatOps.ofBits (F := Ideal) .f32 0x00000000#32)))
    (topOf (ratioOf a)) (FloatOps.ofBits (F := Ideal) .f32 0x00000000#32)

theorem topExpo_eq (a : EReal) : topExpo a = (((expoOf a).toInt : ℝ) : EReal) := by
  have h0 : FloatOps.ofBits (F := Ideal) .f32 0x00000000#32 = (0 : EReal) := by
    show Ideal.ofBits .f32 0x00000000#32 = _
    simp
  unfold topExpo expoOf
  rw [top_count]
  unfold Scalar.select
  split
  · rfl
  · rw [h0]; simp

/-- The scale's power of two, -/
theorem exp2_topExpo (a : EReal) : Ideal.exp2 (topExpo a) = powOf (expoOf a) := by rw [topExpo_eq]; rfl

/-- and its inverse. -/
theorem exp2_neg_topExpo (a : EReal) : Ideal.exp2 (-topExpo a) = powOf (IntOp.subi 0#32 (expoOf a)) := by
  have h := expo_range a
  have hs : (IntOp.subi 0#32 (expoOf a)).toInt = - (expoOf a).toInt := by
    show (0#32 - expoOf a).toInt = _
    rw [BitVec.toInt_sub, BitVec.toInt_zero, Int.bmod_def]
    omega
  unfold powOf
  rw [topExpo_eq, hs, Int.cast_neg, EReal.coe_neg]

end Cert.Common

end
-- ==== Proof.GateUp.Ref.lean ====
module

public import proofs.«01_k».proof.Proof.Gen.GateUpReferenceIdeal.Skeleton
public import proofs.«01_k».proof.Proof.Common.Hidden
public import proofs.«01_k».proof.Proof.Common.Expo
public import Idealize.ShloMosaic.Lib.Pointwise
public import Idealize.ShloMosaic.Lib.Pipeline.ValueKit

@[expose] public section

set_option maxRecDepth 16384

noncomputable section

namespace Cert.GateUpReferenceIdeal.Gen

open Idealize.ShloMosaic Cert.Common
open scoped BigOperators

variable (a : FVec Ideal S4096x8192 .fp8e4m3) (w : FVec Ideal S4096x24576 .fp8e4m3) (ws : FVec Ideal S32x192 .f32)
  (xs : FVec Ideal S32x8192 .f32)

/-- One entry of the reference's scaled product. -/
def refProd (t : Fin 8192) (c : Fin 24576) : EReal :=
  ∑ g : Fin 32, (∑ k : Fin 128, a (ix2 ⟨g * 128 + k, by omega⟩ t) * w (ix2 ⟨g * 128 + k, by omega⟩ c)) * xs (ix2 g t)
    * ws (ix2 g ⟨c / 128, by omega⟩)

theorem refProd_eq (t : Fin 8192) (c : Fin 24576) : refProd a w ws xs t c = prodOf w ws a xs c t := by
  unfold refProd prodOf
  rw [Finset.sum_range]
  refine Finset.sum_congr rfl fun g _ => ?_
  rw [Finset.sum_range, mul_assoc]
  congr 1
  · refine Finset.sum_congr rfl fun k _ => ?_
    rw [at2_of_lt _ (show 128 * g.val + k.val < 4096 by omega) c.2,
      at2_of_lt _ (show 128 * g.val + k.val < 4096 by omega) t.2, mul_comm]
    have hk : (⟨g.val * 128 + k.val, by omega⟩ : Fin 4096) = ⟨128 * g.val + k.val, by omega⟩ := Fin.ext (by simp only; omega)
    rw [hk]
  · rw [at2_of_lt _ g.2 t.2, at2_of_lt _ g.2 (show c.val / 128 < 192 by omega)]

/-- The reference's hidden value of a token, a block and a place in the block. -/
theorem ref_h_at (t : Fin 8192) (b : Fin 96) (k : Fin 128) :
    k0_pay5 (F := Ideal) a w ws xs (ix3 t b k) = hiddenOf (refProd a w ws xs t ⟨b * 128 + k, by omega⟩)
      (refProd a w ws xs t ⟨12288 + (b * 128 + k), by omega⟩) := by
  unfold hiddenOf refProd
  pointwise [k0_pay5]

theorem ref_h (t : Fin 8192) (b : Fin 96) (k : Fin 128) :
    k0_pay5 (F := Ideal) a w ws xs (ix3 t b k) = hidOf w ws a xs (128 * b + k) t := by
  rw [ref_h_at, refProd_eq, refProd_eq]
  unfold hidOf
  simp only [Nat.mul_comm b.val 128]

/-- Its largest magnitude in a block, -/
theorem ref_amax (t : Fin 8192) (b : Fin 96) :
    k0_pay6 (F := Ideal) a w ws xs (ix2 t b) = amaxOf fun k => hidOf w ws a xs (128 * b + k) t := by
  simp only [← ref_h]
  unfold amaxOf
  pointwise [k0_pay6]

/-- The numbers from -149 to 127. -/
theorem ref_num (n : Fin 277) : FloatOps.subf (F := Ideal) (φ := .f32) (FloatOps.sitofp (F := Ideal) .f32 (BitVec.ofNat 32 n.val))
    (FloatOps.ofBits (F := Ideal) .f32 0x43150000#32) = (((n.val : ℝ) - 149 : ℝ) : EReal) := by
  have h1 : FloatOps.ofBits (F := Ideal) .f32 0x43150000#32 = ((149 : ℝ) : EReal) := by
    show Ideal.ieee 8 23 0x43150000#32 = _
    unfold Ideal.ieee
    simp only [show ((0x43150000#32).extractLsb' 31 1 == 1#1) = false by decide,
      show ((0x43150000#32).extractLsb' 23 8).toNat = 134 by decide, show ((0x43150000#32).extractLsb' 0 23).toNat = 1376256 by decide]
    norm_num
  have h2 : (BitVec.ofNat 32 n.val).toInt = (n.val : ℤ) := by
    have := n.isLt
    rw [BitVec.toInt_eq_toNat_of_lt (by simp; omega), BitVec.toNat_ofNat, Nat.mod_eq_of_lt (by omega)]
  rw [h1]
  show ((((BitVec.ofNat 32 n.val).toInt : ℝ) : EReal) - _) = _
  rw [h2, ← EReal.coe_sub, Int.cast_natCast]

theorem ref_one : FloatOps.ofBits (F := Ideal) .f32 0x3F800000#32 = ((1 : ℝ) : EReal) := by
  show Ideal.ieee 8 23 0x3F800000#32 = _
  unfold Ideal.ieee
  simp only [show ((0x3F800000#32).extractLsb' 31 1 == 1#1) = false by decide,
    show ((0x3F800000#32).extractLsb' 23 8).toNat = 127 by decide, show ((0x3F800000#32).extractLsb' 0 23).toNat = 0 by decide]
  norm_num

theorem ref_low : FloatOps.ofBits (F := Ideal) .f32 0xC3150000#32 = ((-149 : ℝ) : EReal) := by
  show Ideal.ieee 8 23 0xC3150000#32 = _
  unfold Ideal.ieee
  simp only [show ((0xC3150000#32).extractLsb' 31 1 == 1#1) = true by decide,
    show ((0xC3150000#32).extractLsb' 23 8).toNat = 134 by decide, show ((0xC3150000#32).extractLsb' 0 23).toNat = 1376256 by decide]
  norm_num

theorem mulf_one {s : Shape} (x : FVec Ideal s .f32) (c : Ideal .f32) (i : s.Idx) :
    mulf x (broadcast s c) i = FloatOps.mulf (F := Ideal) (φ := .f32) (x i) c := rfl

theorem cmpf_one {s : Shape} (p : CmpFPredicate) (x : FVec Ideal s .f32) (c : Ideal .f32) (i : s.Idx) :
    cmpf p x (broadcast s c) i = FloatOps.cmpf (F := Ideal) (φ := .f32) p (x i) c := rfl

theorem ref_ratio (t : Fin 8192) (b : Fin 96) : k0_pay7 (F := Ideal) a w ws xs (ix2 t b) = ratioOf (k0_pay6 (F := Ideal) a w ws xs (ix2 t b)) :=
  mulf_one (k0_pay6 (F := Ideal) a w ws xs) _ _

theorem ref_pos (t : Fin 8192) (b : Fin 96) : k0_pay9 (F := Ideal) a w ws xs (ix2 t b)
    = FloatOps.cmpf (F := Ideal) (φ := .f32) .ogt (k0_pay7 (F := Ideal) a w ws xs (ix2 t b)) (FloatOps.ofBits (F := Ideal) .f32 0x00000000#32) :=
  cmpf_one .ogt (k0_pay7 (F := Ideal) a w ws xs) _ _

/-- The greatest of the values of the numbers whose power is at most each ratio, the others taken at `l`. -/
theorem top_at (r : FVec Ideal S8192x96 .f32) (p q : FVec Ideal S8192x96x277 .f32) (l : Ideal .f32) (t : Fin 8192) (b : Fin 96) :
    multiReduction .maximumf [2] S8192x96 (select (cmpf .oge (broadcastTo S8192x96x277 (shapeCast S8192x96x1 r shapeCasts_S8192x96_S8192x96x1)
      broadcasts_S8192x96x1_S8192x96x277) p) q (broadcast S8192x96x277 l)) 0xFF800000#32 reduces_S8192x96x277_S8192x96 (.inl rfl) rfl (ix2 t b)
    = Finset.univ.fold (FloatOps.maximumf (F := Ideal) (φ := .f32)) (FloatOps.ofBits (F := Ideal) .f32 0xFF800000#32) fun n : Fin 277 =>
      Scalar.select (FloatOps.cmpf (F := Ideal) (φ := .f32) .oge (r (ix2 t b)) (p (ix3 t b n))) (q (ix3 t b n)) l := by
  pointwise

/-- The numbers, as an array. -/
abbrev nums (c : Ideal .f32) : FVec Ideal S8192x96x277 .f32 :=
  subf (F := Ideal) (sitofp .f32 (iota .tc S8192x96x277 32 [2] iota_S8192x96x277_d2_w32)) (broadcast S8192x96x277 c)

theorem powers_at (c : Ideal .f32) (t : Fin 8192) (b : Fin 96) (n : Fin 277) :
    exp2 (F := Ideal) (nums c) (ix3 t b n) = FloatOps.exp2 (F := Ideal) (φ := .f32) (FloatOps.subf (F := Ideal) (φ := .f32) (FloatOps.sitofp (F := Ideal) .f32 (BitVec.ofNat 32 n.val)) c) := by
  pointwise

theorem next_at (c o : Ideal .f32) (t : Fin 8192) (b : Fin 96) (n : Fin 277) :
    addf (F := Ideal) (nums c) (broadcast S8192x96x277 o) (ix3 t b n)
      = FloatOps.addf (F := Ideal) (φ := .f32) (FloatOps.subf (F := Ideal) (φ := .f32) (FloatOps.sitofp (F := Ideal) .f32 (BitVec.ofNat 32 n.val)) c) o := by
  pointwise

theorem ref_top (t : Fin 8192) (b : Fin 96) : k0_pay8 (F := Ideal) a w ws xs (ix2 t b) = topOf (k0_pay7 (F := Ideal) a w ws xs (ix2 t b)) := by
  refine (top_at (k0_pay7 (F := Ideal) a w ws xs) (exp2 (F := Ideal) (nums _)) (addf (F := Ideal) (nums _) (broadcast S8192x96x277 _)) _ t b).trans ?_
  unfold topOf
  refine congrArg (Finset.univ.fold _ _) (funext fun n => ?_)
  have hp := (powers_at (FloatOps.ofBits (F := Ideal) .f32 0x43150000#32) t b n).trans (congrArg (FloatOps.exp2 (F := Ideal) (φ := .f32)) (ref_num n))
  have hn : addf (F := Ideal) (nums (FloatOps.ofBits (F := Ideal) .f32 0x43150000#32)) (broadcast S8192x96x277 (FloatOps.ofBits (F := Ideal) .f32 0x3F800000#32)) (ix3 t b n)
      = (((n.val : ℝ) - 148 : ℝ) : EReal) := by
    rw [next_at, ref_num, ref_one]
    show (((n.val : ℝ) - 149 : ℝ) : EReal) + ((1 : ℝ) : EReal) = _
    rw [← EReal.coe_add]
    exact congrArg _ (by ring)
  exact congr (congr (congrArg (fun x => Scalar.select (FloatOps.cmpf (F := Ideal) (φ := .f32) .oge (k0_pay7 (F := Ideal) a w ws xs (ix2 t b)) x)) hp) hn) ref_low

theorem ref_select (x r e : FVec Ideal S8192x96 .f32) (p : IVec S8192x96 1) (c : Ideal .f32) (i : S8192x96.Idx) :
    k0_pay1 (F := Ideal) x r e p c i = Scalar.select (IntOp.andi (IntOp.andi (p i) (FloatOps.cmpf (F := Ideal) (φ := .f32) .olt (r i) c))
      (FloatOps.cmpf (F := Ideal) (φ := .f32) .one (x i) (FloatOps.ofBits (F := Ideal) .f32 0x00000000#32))) (e i) (FloatOps.ofBits (F := Ideal) .f32 0x00000000#32) := by
  rfl

/-- The reference's exponents, -/
abbrev refExpo : FVec Ideal S8192x96 .f32 :=
  k0_pay1 (F := Ideal) (k0_pay6 (F := Ideal) a w ws xs) (k0_pay7 (F := Ideal) a w ws xs) (k0_pay8 (F := Ideal) a w ws xs) (k0_pay9 (F := Ideal) a w ws xs)
    (FloatOps.ofBits (F := Ideal) .f32 0x7F800000#32)

theorem ref_expo (t : Fin 8192) (b : Fin 96) : refExpo a w ws xs (ix2 t b) = topExpo (k0_pay6 (F := Ideal) a w ws xs (ix2 t b)) := by
  unfold refExpo topExpo
  rw [ref_select, ref_top, ref_pos, ref_ratio]

theorem scale_at (x r e : FVec Ideal S8192x96 .f32) (p : IVec S8192x96 1) (c : Ideal .f32) (b : Fin 96) (t : Fin 8192) :
    k0_pay4 (F := Ideal) x r e p c (ix2 b t) = FloatOps.exp2 (F := Ideal) (φ := .f32) (k0_pay1 (F := Ideal) x r e p c (ix2 t b)) := by
  pointwise [k0_pay4]

theorem neg_exp2 (x : EReal) : FloatOps.exp2 (F := Ideal) (φ := .f32) (FloatOps.subf (F := Ideal) (φ := .f32) (FloatOps.ofBits (F := Ideal) .f32 0x00000000#32) x)
    = Ideal.exp2 (-x) := by
  have h0 : FloatOps.ofBits (F := Ideal) .f32 0x00000000#32 = (0 : EReal) := by
    show Ideal.ofBits .f32 0x00000000#32 = _
    simp
  rw [h0]
  show Ideal.exp2 (0 - x) = _
  rw [zero_sub]

theorem code_at (h : FVec Ideal S8192x96x128 .f32) (x r e : FVec Ideal S8192x96 .f32) (p : IVec S8192x96 1) (c : Ideal .f32) (t : Fin 8192) (i : Fin 12288) :
    k0_pay2 (F := Ideal) h x r e p c (ix2 t i)
      = FloatOps.minimumf (F := Ideal) (φ := .f32) (FloatOps.ofBits (F := Ideal) .f32 0x43E00000#32)
        (FloatOps.maximumf (F := Ideal) (φ := .f32) (FloatOps.ofBits (F := Ideal) .f32 0xC3E00000#32)
          (FloatOps.mulf (F := Ideal) (φ := .f32) (h (ix3 t ⟨i / 128, by omega⟩ ⟨i % 128, by omega⟩))
            (FloatOps.exp2 (F := Ideal) (φ := .f32) (FloatOps.subf (F := Ideal) (φ := .f32) (FloatOps.ofBits (F := Ideal) .f32 0x00000000#32)
              (k0_pay1 (F := Ideal) x r e p c (ix2 t ⟨i / 128, by omega⟩)))))) := by
  pointwise [k0_pay2]

/-- its scales, -/
theorem ref_scale (b : Fin 96) (t : Fin 8192) :
    k0_pay4 (F := Ideal) (k0_pay6 (F := Ideal) a w ws xs) (k0_pay7 (F := Ideal) a w ws xs) (k0_pay8 (F := Ideal) a w ws xs) (k0_pay9 (F := Ideal) a w ws xs)
    (FloatOps.ofBits (F := Ideal) .f32 0x7F800000#32) (ix2 b t) = scaleOf (hidOf w ws a xs) (128 * b) t := by
  have h := ref_expo a w ws xs t b
  unfold refExpo at h
  rw [scale_at, h, ref_amax]
  exact exp2_topExpo _

/-- and its codes. -/
theorem ref_blockCode (t : Fin 8192) (r : Fin 12288) :
    k0_pay2 (F := Ideal) (k0_pay5 (F := Ideal) a w ws xs) (k0_pay6 (F := Ideal) a w ws xs) (k0_pay7 (F := Ideal) a w ws xs) (k0_pay8 (F := Ideal) a w ws xs) (k0_pay9 (F := Ideal) a w ws xs)
    (FloatOps.ofBits (F := Ideal) .f32 0x7F800000#32) (ix2 t r)
      = blockCode (hidOf w ws a xs) r t := by
  have h := ref_expo a w ws xs t ⟨r / 128, by omega⟩
  unfold refExpo at h
  rw [code_at, h, ref_amax, ref_h, neg_exp2, exp2_neg_topExpo]
  unfold blockCode
  exact congrArg (fun n => codeOf _ (hidOf w ws a xs n t)) (Nat.div_add_mod r.val 128)

/-! ## The three results -/

theorem pay2_eq : k0_pay2 (F := Ideal) (k0_pay5 (F := Ideal) a w ws xs) (k0_pay6 (F := Ideal) a w ws xs) (k0_pay7 (F := Ideal) a w ws xs) (k0_pay8 (F := Ideal) a w ws xs) (k0_pay9 (F := Ideal) a w ws xs)
    (FloatOps.ofBits (F := Ideal) .f32 0x7F800000#32) = codesOf (hidOf w ws a xs) := by
  funext y
  obtain ⟨t, r, rfl⟩ : ∃ (t : Fin 8192) (r : Fin 12288), y = ix2 (n0 := 8192) (n1 := 12288) t r :=
    ⟨y 0, y 1, eq_ix2 (n0 := 8192) (n1 := 12288) y⟩
  exact ref_blockCode a w ws xs t r

theorem pay3_at (h : FVec Ideal S8192x96x128 .f32) (x r e : FVec Ideal S8192x96 .f32) (p : IVec S8192x96 1) (c : Ideal .f32)
    (i : Fin 12288) (t : Fin 8192) : k0_pay3 (F := Ideal) h x r e p c (ix2 i t) = k0_pay2 (F := Ideal) h x r e p c (ix2 t i) := by
  pointwise [k0_pay3]

theorem pay3_eq : k0_pay3 (F := Ideal) (k0_pay5 (F := Ideal) a w ws xs) (k0_pay6 (F := Ideal) a w ws xs) (k0_pay7 (F := Ideal) a w ws xs) (k0_pay8 (F := Ideal) a w ws xs) (k0_pay9 (F := Ideal) a w ws xs)
    (FloatOps.ofBits (F := Ideal) .f32 0x7F800000#32) = codesTOf (hidOf w ws a xs) := by
  funext y
  obtain ⟨r, t, rfl⟩ : ∃ (r : Fin 12288) (t : Fin 8192), y = ix2 (n0 := 12288) (n1 := 8192) r t :=
    ⟨y 0, y 1, eq_ix2 (n0 := 12288) (n1 := 8192) y⟩
  exact (pay3_at _ _ _ _ _ _ r t).trans (ref_blockCode a w ws xs t r)

theorem pay4_eq : k0_pay4 (F := Ideal) (k0_pay6 (F := Ideal) a w ws xs) (k0_pay7 (F := Ideal) a w ws xs) (k0_pay8 (F := Ideal) a w ws xs) (k0_pay9 (F := Ideal) a w ws xs)
    (FloatOps.ofBits (F := Ideal) .f32 0x7F800000#32) = scalesOf (hidOf w ws a xs) := by
  funext y
  obtain ⟨b, t, rfl⟩ : ∃ (b : Fin 96) (t : Fin 8192), y = ix2 (n0 := 96) (n1 := 8192) b t :=
    ⟨y 0, y 1, eq_ix2 (n0 := 96) (n1 := 8192) y⟩
  exact ref_scale a w ws xs b t

end Cert.GateUpReferenceIdeal.Gen

end
-- ==== Proof.GateUp.RefFinal.lean ====
module

public import proofs.«01_k».proof.Proof.Gen.GateUpReferenceIdeal.Frame
public import proofs.«01_k».proof.Proof.GateUp.Ref

@[expose] public section

set_option maxRecDepth 16384

noncomputable section

namespace Cert.GateUpReferenceIdeal.Gen

open Idealize.ShloMosaic Idealize.ShloMosaic.TcCoe Cert.Common

variable (m : (ℓ : Loc nD τ sig) → Buf (Elt Ideal) ℓ)

/-- A window of the reference is its whole array. -/
theorem idx0 : (∀ t : Fin cfg0.N, win0_0.index t = ![0, 0]) ∧ (∀ t : Fin cfg0.N, win0_1.index t = ![0, 0])
    ∧ (∀ t : Fin cfg0.N, win0_2.index t = ![0, 0]) ∧ (∀ t : Fin cfg0.N, win0_3.index t = ![0, 0])
    ∧ (∀ t : Fin cfg0.N, win0_4.index t = ![0, 0]) ∧ (∀ t : Fin cfg0.N, win0_5.index t = ![0, 0])
    ∧ (∀ t : Fin cfg0.N, win0_6.index t = ![0, 0]) :=
  ⟨(by decide +kernel : ∀ t : Fin grid0.N, win0_0.index t = ![0, 0]),
    (by decide +kernel : ∀ t : Fin grid0.N, win0_1.index t = ![0, 0]),
    (by decide +kernel : ∀ t : Fin grid0.N, win0_2.index t = ![0, 0]),
    (by decide +kernel : ∀ t : Fin grid0.N, win0_3.index t = ![0, 0]),
    (by decide +kernel : ∀ t : Fin grid0.N, win0_4.index t = ![0, 0]),
    (by decide +kernel : ∀ t : Fin grid0.N, win0_5.index t = ![0, 0]),
    (by decide +kernel : ∀ t : Fin grid0.N, win0_6.index t = ![0, 0])⟩

section
variable (x0 : Vec Ideal S4096x24576 .fp8e4m3) (x1 : Vec Ideal S32x192 .f32) (x2 : Vec Ideal S4096x8192 .fp8e4m3) (x3 : Vec Ideal S32x8192 .f32)

/-- A load of a whole window reads all of it. -/
theorem ld0 : View.ld x2 r0_0 = x2 := View.ld_unit_lit _ x2 (by decide)
theorem ld1 : View.ld x0 r0_1 = x0 := View.ld_unit_lit _ x0 (by decide)
theorem ld2 : View.ld x1 r0_2 = x1 := View.ld_unit_lit _ x1 (by decide)
theorem ld3 : View.ld x3 r0_3 = x3 := View.ld_unit_lit _ x3 (by decide)

theorem pay10_eq : k0_pay10 (F := Ideal) x0 x1 x2 x3 = k0_pay5 (F := Ideal) x2 x0 x1 x3 := by
  unfold k0_pay10; rw [ld0, ld1, ld2, ld3]
theorem pay11_eq : k0_pay11 (F := Ideal) x0 x1 x2 x3 = k0_pay6 (F := Ideal) x2 x0 x1 x3 := by
  unfold k0_pay11; rw [ld0, ld1, ld2, ld3]
theorem pay12_eq : k0_pay12 (F := Ideal) x0 x1 x2 x3 = k0_pay7 (F := Ideal) x2 x0 x1 x3 := by
  unfold k0_pay12; rw [ld0, ld1, ld2, ld3]
theorem pay13_eq : k0_pay13 (F := Ideal) x0 x1 x2 x3 = k0_pay8 (F := Ideal) x2 x0 x1 x3 := by
  unfold k0_pay13; rw [ld0, ld1, ld2, ld3]
theorem pay14_eq : k0_pay14 (F := Ideal) x0 x1 x2 x3 = k0_pay9 (F := Ideal) x2 x0 x1 x3 := by
  unfold k0_pay14; rw [ld0, ld1, ld2, ld3]
end

/-- The hidden values of the reference's arguments. -/
abbrev hid (c : Dev nD) : ℕ → ℕ → EReal :=
  hidOf (m ((c : Thread nD τ).loc main_arg0)) (m ((c : Thread nD τ).loc main_arg1)) (m ((c : Thread nD τ).loc main_arg2))
    (m ((c : Thread nD τ).loc main_arg3))

theorem final4 (c : Dev nD) : (dats (F := Ideal) m 0 c).arrAt 4 cfg0.N = codesTOf (hid m c) := by
  refine (dats m 0 c).arrAt_eq_of_covers 4 _ (by decide +kernel) fun t hf y => ?_
  blk_simp
  rw [after0_4]; frame_out
  obtain ⟨h0, h1, h2, h3, h4, h5, h6⟩ := idx0
  rw [show iblk m c 0 t = m ((c : Thread nD τ).loc main_arg0) by blk_ext! [iblk, V, h0],
    show iblk m c 1 t = m ((c : Thread nD τ).loc main_arg1) by blk_ext! [iblk, V, h1],
    show iblk m c 2 t = m ((c : Thread nD τ).loc main_arg2) by blk_ext! [iblk, V, h2],
    show iblk m c 3 t = m ((c : Thread nD τ).loc main_arg3) by blk_ext! [iblk, V, h3],
    pay10_eq, pay11_eq, pay12_eq, pay13_eq, pay14_eq, pay3_eq]
  refine congrArg _ ?_
  blk_ext [h4]

theorem final5 (c : Dev nD) : (dats (F := Ideal) m 0 c).arrAt 5 cfg0.N = codesOf (hid m c) := by
  refine (dats m 0 c).arrAt_eq_of_covers 5 _ (by decide +kernel) fun t hf y => ?_
  blk_simp
  rw [after0_5]; frame_out
  obtain ⟨h0, h1, h2, h3, h4, h5, h6⟩ := idx0
  rw [show iblk m c 0 t = m ((c : Thread nD τ).loc main_arg0) by blk_ext! [iblk, V, h0],
    show iblk m c 1 t = m ((c : Thread nD τ).loc main_arg1) by blk_ext! [iblk, V, h1],
    show iblk m c 2 t = m ((c : Thread nD τ).loc main_arg2) by blk_ext! [iblk, V, h2],
    show iblk m c 3 t = m ((c : Thread nD τ).loc main_arg3) by blk_ext! [iblk, V, h3],
    pay10_eq, pay11_eq, pay12_eq, pay13_eq, pay14_eq, pay2_eq]
  refine congrArg _ ?_
  blk_ext [h5]

theorem final6 (c : Dev nD) : (dats (F := Ideal) m 0 c).arrAt 6 cfg0.N = scalesOf (hid m c) := by
  refine (dats m 0 c).arrAt_eq_of_covers 6 _ (by decide +kernel) fun t hf y => ?_
  blk_simp
  rw [after0_6]; frame_out
  obtain ⟨h0, h1, h2, h3, h4, h5, h6⟩ := idx0
  rw [show iblk m c 0 t = m ((c : Thread nD τ).loc main_arg0) by blk_ext! [iblk, V, h0],
    show iblk m c 1 t = m ((c : Thread nD τ).loc main_arg1) by blk_ext! [iblk, V, h1],
    show iblk m c 2 t = m ((c : Thread nD τ).loc main_arg2) by blk_ext! [iblk, V, h2],
    show iblk m c 3 t = m ((c : Thread nD τ).loc main_arg3) by blk_ext! [iblk, V, h3],
    pay11_eq, pay12_eq, pay13_eq, pay14_eq, pay4_eq]
  refine congrArg _ ?_
  blk_ext [h6]

end Cert.GateUpReferenceIdeal.Gen

end
-- ==== Proof.GateUp.Words.lean ====
module

public import proofs.«01_k».proof.Proof.Gen.GateUp
public import proofs.«01_k».proof.Proof.GateUp.Body
public import proofs.«01_k».proof.Defs

@[expose] public section

set_option maxRecDepth 16384

noncomputable section

namespace Cert.GateUpIdeal.Words

open Idealize.ShloMosaic Idealize.ShloMosaic.TcCoe Idealize.SL.Sem

variable {F : FTy → Type} [FloatOps F]

/-- The kernel over the words and the kernel over the extended reals have the same body, -/
theorem defs₀_eq : Cert.GateUp.defs₀ (F := F) = Cert.GateUpIdeal.defs₀ (F := F) := by
  refine congrArg (Defs.onTc (Λ := Cert.GateUpIdeal.Λ₀)) (funext fun l => funext fun a => ?_)
  match l, a with
  | ⟨0, _⟩, (t, s) =>
    show Cert.GateUp.cc0_gate_up _ _ _ _ _ _ _ _ _ _ _ _ _ _ _ _ _ _ _ _ _ _ _ = Cert.GateUpIdeal.cc0_gate_up _ _ _ _ _ _ _ _ _ _ _ _ _ _ _ _ _ _ _ _ _ _ _
    with_unfolding_all exact rfl

/-- the same pipeline -/
theorem defs_eq : Cert.GateUp.defs (F := F) = Cert.GateUpIdeal.defs (F := F) := by
  unfold Cert.GateUp.defs Cert.GateUpIdeal.defs
  rw [← defs₀_eq]
  with_unfolding_all exact rfl

/-- and so the same frame. -/
theorem quiescent : Cert.quiescent_GateUp (hGateUp := Cert.GateUp.Gen.facts) := fun m ρ _ => by
  have h := Rel.frame (F := Bits) m ρ
  rw [← defs_eq] at h
  with_unfolding_all exact h

end Cert.GateUpIdeal.Words

end
-- ==== Proof.lean ====
module

public import proofs.«01_k».proof.Defs
public import proofs.«01_k».proof.Proof.Gen.Down
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownReferenceIdeal
public import proofs.«01_k».proof.Proof.Gen.DownReferenceIdeal.Skeleton
public import proofs.«01_k».proof.Proof.Gen.DownReferenceIdeal.Launch
public import proofs.«01_k».proof.Proof.Gen.DownReferenceIdeal.Points
public import proofs.«01_k».proof.Proof.Gen.DownReferenceIdeal.Frame
public import proofs.«01_k».proof.Proof.Gen.GateUp
public import proofs.«01_k».proof.Proof.Gen.GateUpIdeal
public import proofs.«01_k».proof.Proof.Gen.GateUpIdeal.Skeleton
public import proofs.«01_k».proof.Proof.Gen.GateUpIdeal.Launch
public import proofs.«01_k».proof.Proof.Gen.GateUpIdeal.Points
public import proofs.«01_k».proof.Proof.Gen.GateUpIdeal.Frame
public import proofs.«01_k».proof.Proof.Gen.GateUpReferenceIdeal
public import proofs.«01_k».proof.Proof.Gen.GateUpReferenceIdeal.Skeleton
public import proofs.«01_k».proof.Proof.Gen.GateUpReferenceIdeal.Launch
public import proofs.«01_k».proof.Proof.Gen.GateUpReferenceIdeal.Points
public import proofs.«01_k».proof.Proof.Gen.GateUpReferenceIdeal.Frame
public import proofs.«01_k».proof.Proof.Gen.QuantX
public import proofs.«01_k».proof.Proof.Gen.QuantX.Skeleton
public import proofs.«01_k».proof.Proof.Gen.QuantX.Launch
public import proofs.«01_k».proof.Proof.Gen.QuantX.Points
public import proofs.«01_k».proof.Proof.Gen.QuantX.Frame
public import proofs.«01_k».proof.Proof.Gen.QuantXReference
public import proofs.«01_k».proof.Proof.Gen.QuantXReference.Skeleton
public import proofs.«01_k».proof.Proof.Gen.QuantXReference.Launch
public import proofs.«01_k».proof.Proof.Gen.QuantXReference.Points
public import proofs.«01_k».proof.Proof.Gen.QuantXReference.Frame
public import proofs.«01_k».proof.Proof.Down.Final
public import proofs.«01_k».proof.Proof.QuantX.Final
public import proofs.«01_k».proof.Proof.Down.Words
public import proofs.«01_k».proof.Proof.GateUp.Final
public import proofs.«01_k».proof.Proof.GateUp.RefFinal
public import proofs.«01_k».proof.Proof.GateUp.Words
public import Idealize.ShloMosaic.Adequacy
public import Idealize.ShloMosaic.Init

@[expose] public section

noncomputable section

namespace Cert.Proof

open Idealize.ShloMosaic Idealize.SL.Sem Cert.Down

/-- The kernel and the reference end with the same two arrays. -/
theorem algebraic : Cert.algebraic_DownIdeal_DownReferenceIdeal (hDownIdeal := Cert.DownIdeal.Gen.facts)
    (hDownReferenceIdeal := Cert.DownReferenceIdeal.Gen.facts) := fun m g m' g' _ hm => by
  refine ⟨fun c => Cert.Common.yOf (m (c.tc.loc Cert.DownIdeal.main_arg0)) (m (c.tc.loc Cert.DownIdeal.main_arg1))
      (m (c.tc.loc Cert.DownIdeal.main_arg2)) (m (c.tc.loc Cert.DownIdeal.main_arg3)),
    fun c => Cert.Common.sOf (m (c.tc.loc Cert.DownIdeal.main_arg3)), ?_, ?_⟩
  · refine (θ_run _ _ _).mono (fun r h c => ?_) (θ_run_and (Cert.DownIdeal.Gen.run_main m g) (Cert.DownIdeal.Gen.unchanged m g))
    exact ⟨(h.1.out_eq c 4).trans (Cert.DownIdeal.Gen.final4 m c), (h.1.out_eq c 5).trans (Cert.DownIdeal.Gen.final5 m c), h.2 c⟩
  · refine (θ_run _ _ _).mono (fun r h c => ?_) (θ_run_and (Cert.DownReferenceIdeal.Gen.run_main m' g') (Cert.DownReferenceIdeal.Gen.unchanged m' g'))
    obtain ⟨e0, e1, e2, e3⟩ := hm c
    exact ⟨((h.1.out_eq c 4).trans (Cert.DownReferenceIdeal.Gen.final4 m' c)).trans
        (congr (congr (congr (congrArg Cert.Common.yOf e0) e1) e2) e3),
      ((h.1.out_eq c 5).trans (Cert.DownReferenceIdeal.Gen.final5 m' c)).trans (congrArg Cert.Common.sOf e3), h.2 c⟩

/-- The gate and up projections with the hidden quantiser, and their reference, end with the same three arrays. -/
theorem algebraic_gate_up : Cert.algebraic_GateUpIdeal_GateUpReferenceIdeal (hGateUpIdeal := Cert.GateUpIdeal.Gen.facts)
    (hGateUpReferenceIdeal := Cert.GateUpReferenceIdeal.Gen.facts) := fun m g m' g' _ hm => by
  refine ⟨fun c => Cert.Common.codesTOf (Cert.GateUpIdeal.Gen.hid m c), fun c => Cert.Common.codesOf (Cert.GateUpIdeal.Gen.hid m c),
    fun c => Cert.Common.scalesOf (Cert.GateUpIdeal.Gen.hid m c), ?_, ?_⟩
  · refine (θ_run _ _ _).mono (fun r h c => ?_) (θ_run_and (Cert.GateUpIdeal.Rel.run_values m g) (Cert.GateUpIdeal.Rel.unchanged m g))
    exact ⟨(h.1 c).1, (h.1 c).2.1, (h.1 c).2.2, h.2 c⟩
  · refine (θ_run _ _ _).mono (fun r h c => ?_) (θ_run_and (Cert.GateUpReferenceIdeal.Gen.run_main m' g') (Cert.GateUpReferenceIdeal.Gen.unchanged m' g'))
    obtain ⟨e0, e1, e2, e3⟩ := hm c
    have e : Cert.GateUpReferenceIdeal.Gen.hid m' c = Cert.GateUpIdeal.Gen.hid m c := by
      unfold Cert.GateUpReferenceIdeal.Gen.hid Cert.GateUpIdeal.Gen.hid
      exact congr (congr (congr (congrArg Cert.Common.hidOf e0) e1) e2) e3
    exact ⟨((h.1.out_eq c 4).trans (Cert.GateUpReferenceIdeal.Gen.final4 m' c)).trans (congrArg Cert.Common.codesTOf e),
      ((h.1.out_eq c 5).trans (Cert.GateUpReferenceIdeal.Gen.final5 m' c)).trans (congrArg Cert.Common.codesOf e),
      ((h.1.out_eq c 6).trans (Cert.GateUpReferenceIdeal.Gen.final6 m' c)).trans (congrArg Cert.Common.scalesOf e), h.2 c⟩

/-- The activations, one row per token. -/
def rowsOf (x : Vec Bits (⟨3, ![2, 4096, 4096]⟩ : Shape) .f32) : Vec Bits (⟨2, ![8192, 4096]⟩ : Shape) .f32 :=
  shapeCast Cert.QuantXReference.S8192x4096 x Cert.QuantXReference.Gen.facts.shapeCasts_S2x4096x4096_S8192x4096

/-- The quantiser and its reference end with the same four arrays, word for word. -/
theorem bitexact : Cert.bitexact_QuantX_QuantXReference (hQuantX := Cert.QuantX.Gen.facts)
    (hQuantXReference := Cert.QuantXReference.Gen.facts) := fun m g m' g' _ hm => by
  refine ⟨fun c => Cert.QuantXReference.Gen.out0_1 (F := Bits) (rowsOf (m (c.tc.loc Cert.QuantX.main_arg0))),
    fun c => Cert.QuantXReference.Gen.out0_2 (F := Bits) (rowsOf (m (c.tc.loc Cert.QuantX.main_arg0))),
    fun c => Cert.QuantXReference.Gen.out0_3 (F := Bits) (rowsOf (m (c.tc.loc Cert.QuantX.main_arg0))),
    fun c => Cert.QuantXReference.Gen.out0_4 (F := Bits) (rowsOf (m (c.tc.loc Cert.QuantX.main_arg0))), ?_, ?_⟩
  · refine (θ_run _ _ _).mono (fun r h c => ?_) (θ_run_and (Cert.QuantX.Gen.run_main m g) (Cert.QuantX.Gen.unchanged m g))
    have e : Cert.QuantX.Gen.rows m c = rowsOf (m (c.tc.loc Cert.QuantX.main_arg0)) := Cert.QuantX.Gen.rows_eq m c
    beta_reduce; rw [← e]
    exact ⟨(h.1.out_eq c 1).trans (Cert.QuantX.Gen.final1 m c), (h.1.out_eq c 2).trans (Cert.QuantX.Gen.final2 m c),
      (h.1.out_eq c 3).trans (Cert.QuantX.Gen.final3 m c), (h.1.out_eq c 4).trans (Cert.QuantX.Gen.final4 m c), h.2 c⟩
  · refine (θ_run _ _ _).mono (fun r h c => ?_) (θ_run_and (Cert.QuantXReference.Gen.run_main m' g') (Cert.QuantXReference.Gen.unchanged m' g'))
    have e := congrArg rowsOf (hm c)
    exact ⟨((h.1.out_eq c 1).trans (Cert.QuantXReference.Gen.final1 m' c)).trans (congrArg (Cert.QuantXReference.Gen.out0_1 (F := Bits)) e),
      ((h.1.out_eq c 2).trans (Cert.QuantXReference.Gen.final2 m' c)).trans (congrArg (Cert.QuantXReference.Gen.out0_2 (F := Bits)) e),
      ((h.1.out_eq c 3).trans (Cert.QuantXReference.Gen.final3 m' c)).trans (congrArg (Cert.QuantXReference.Gen.out0_3 (F := Bits)) e),
      ((h.1.out_eq c 4).trans (Cert.QuantXReference.Gen.final4 m' c)).trans (congrArg (Cert.QuantXReference.Gen.out0_4 (F := Bits)) e), h.2 c⟩

theorem claim : Cert.Claim := ⟨Cert.Down.Gen.facts, Cert.DownIdeal.Gen.facts, Cert.DownReferenceIdeal.Gen.facts,
  Cert.GateUp.Gen.facts, Cert.GateUpIdeal.Gen.facts, Cert.GateUpReferenceIdeal.Gen.facts,
  Cert.QuantX.Gen.facts, Cert.QuantXReference.Gen.facts,
  Cert.DownIdeal.Words.quiescent, fun m ρ _ => Cert.DownIdeal.Gen.frame m ρ,
  fun m ρ _ => Cert.DownReferenceIdeal.Gen.frame m ρ,
  Cert.GateUpIdeal.Words.quiescent, fun m ρ _ => Cert.GateUpIdeal.Rel.frame m ρ,
  fun m ρ _ => Cert.GateUpReferenceIdeal.Gen.frame m ρ, fun m ρ _ => Cert.QuantX.Gen.frame m ρ,
  fun m ρ _ => Cert.QuantXReference.Gen.frame m ρ, trivial, algebraic, trivial, algebraic_gate_up, bitexact⟩

end Cert.Proof

end
